-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_multiplier_nonnegative [hPre_multiplier_nonnegative : Cert.Pre_multiplier_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_multiplier_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_multiplier_nonnegative [hPre_multiplier_nonnegative : Cert.Pre_multiplier_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_multiplier_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_multiplier_nonnegative [hKernelIdeal : Cert.KernelIdeal.Facts] [hPre_multiplier_nonnegative : Cert.Pre_multiplier_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_multiplier_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_multiplier_nonnegative [hReferenceIdeal : Cert.ReferenceIdeal.Facts] [hPre_multiplier_nonnegative : Cert.Pre_multiplier_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_multiplier_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_multiplier_nonnegative [hKernelIdeal : Cert.KernelIdeal.Facts] [hReferenceIdeal : Cert.ReferenceIdeal.Facts] [hPre_multiplier_nonnegative : Cert.Pre_multiplier_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_multiplier_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_multiplier_nonnegative : Cert.Pre_multiplier_nonnegative.Facts),
    quiescent_Kernel (hKernel := hKernel)
    ∧ quiescent_KernelIdeal (hKernelIdeal := hKernelIdeal)
    ∧ quiescent_KernelIdeal_pre_multiplier_nonnegative (hKernelIdeal := hKernelIdeal) (hPre_multiplier_nonnegative := hPre_multiplier_nonnegative)
    ∧ quiescent_ReferenceIdeal (hReferenceIdeal := hReferenceIdeal)
    ∧ quiescent_ReferenceIdeal_pre_multiplier_nonnegative (hReferenceIdeal := hReferenceIdeal) (hPre_multiplier_nonnegative := hPre_multiplier_nonnegative)
    ∧ preserves_Kernel_KernelIdeal
    ∧ algebraic_KernelIdeal_ReferenceIdeal_pre_multiplier_nonnegative (hKernelIdeal := hKernelIdeal) (hReferenceIdeal := hReferenceIdeal) (hPre_multiplier_nonnegative := hPre_multiplier_nonnegative)
-- ==== Pre_multiplier_nonnegative.lean ====
abbrev S2x384x16384 : Shape := ⟨3, ![2, 384, 16384]⟩
abbrev S_ : Shape := ⟨0, ![]⟩
abbrev S8192x3584 : Shape := ⟨2, ![8192, 3584]⟩
abbrev S3584 : Shape := ⟨1, ![3584]⟩

class Facts : Prop where
  bcast_S_S3584 : S_.BroadcastsInDim S3584 (![] : Fin 0 → Fin S3584.rank)

variable [Facts]

def fn {F : FTy → Type} [FloatOps F] (main_arg0 : IVec S2x384x16384 8) (main_arg1 : IVec S_ 32) (main_arg2 : IVec S8192x3584 8) (main_arg3 : IVec S3584 32) (main_arg4 : IVec S3584 32) (main_arg5 : IVec S3584 32) (main_arg6 : IVec S3584 32) (main_arg7 : IVec S_ 32) : IVec S3584 1 :=
  let main_c : IVec S_ 32 := constantI S_ 32 0#32
  let main_v0 : IVec S3584 32 := broadcastInDim S3584 ![] bcast_S_S3584 main_c
  let main_v1 : IVec S3584 1 := cmpi .sge main_arg5 main_v0
  main_v1
-- ==== Kernel.lean ====
abbrev S2x384x16384 : Shape := ⟨3, ![2, 384, 16384]⟩
abbrev S_ : Shape := ⟨0, ![]⟩
abbrev S8192x3584 : Shape := ⟨2, ![8192, 3584]⟩
abbrev S3584 : Shape := ⟨1, ![3584]⟩
abbrev S1 : Shape := ⟨1, ![1]⟩
abbrev S2 : Shape := ⟨1, ![2]⟩
abbrev S1x3584 : Shape := ⟨2, ![1, 3584]⟩
abbrev S4x3584 : Shape := ⟨2, ![4, 3584]⟩
abbrev S768x16384 : Shape := ⟨2, ![768, 16384]⟩
abbrev S768x3584 : Shape := ⟨2, ![768, 3584]⟩
abbrev S8192x512 : Shape := ⟨2, ![8192, 512]⟩
abbrev S4x512 : Shape := ⟨2, ![4, 512]⟩
abbrev S768x512 : Shape := ⟨2, ![768, 512]⟩
abbrev S768x128 : Shape := ⟨2, ![768, 128]⟩
abbrev S768x1024 : Shape := ⟨2, ![768, 1024]⟩
abbrev S768 : Shape := ⟨1, ![768]⟩
abbrev S768x1 : Shape := ⟨2, ![768, 1]⟩
abbrev S1x512 : Shape := ⟨2, ![1, 512]⟩
abbrev S512x512 : Shape := ⟨2, ![512, 512]⟩
abbrev S1024x512 : Shape := ⟨2, ![1024, 512]⟩
abbrev S512 : Shape := ⟨1, ![512]⟩
abbrev S2x384x3584 : Shape := ⟨3, ![2, 384, 3584]⟩

abbrev nBuf : Space → Nat
  | .hbm => 19
  | .vmem => 10
  | .smem => 1
  | _ => 0

abbrev bufTy : (tb : Table) → Fin (tcTables nBuf tb) → BufTy
  | .hbm, ⟨0, _⟩ => ⟨S2x384x16384, .i8⟩
  | .hbm, ⟨1, _⟩ => ⟨S_, .i32⟩
  | .hbm, ⟨2, _⟩ => ⟨S8192x3584, .i8⟩
  | .hbm, ⟨3, _⟩ => ⟨S3584, .i32⟩
  | .hbm, ⟨4, _⟩ => ⟨S3584, .i32⟩
  | .hbm, ⟨5, _⟩ => ⟨S3584, .i32⟩
  | .hbm, ⟨6, _⟩ => ⟨S3584, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S1x3584, .i32⟩
  | .hbm, ⟨12, _⟩ => ⟨S1x3584, .i32⟩
  | .hbm, ⟨13, _⟩ => ⟨S1x3584, .i32⟩
  | .hbm, ⟨14, _⟩ => ⟨S1x3584, .i32⟩
  | .hbm, ⟨15, _⟩ => ⟨S4x3584, .i32⟩
  | .hbm, ⟨16, _⟩ => ⟨S768x16384, .i8⟩
  | .hbm, ⟨17, _⟩ => ⟨S768x3584, .i8⟩
  | .hbm, ⟨18, _⟩ => ⟨S2x384x3584, .i8⟩
  | .local _ .vmem, ⟨0, _⟩ => ⟨S768x16384, .i8⟩
  | .local _ .vmem, ⟨1, _⟩ => ⟨S8192x512, .i8⟩
  | .local _ .vmem, ⟨2, _⟩ => ⟨S8192x512, .i8⟩
  | .local _ .vmem, ⟨3, _⟩ => ⟨S4x512, .i32⟩
  | .local _ .vmem, ⟨4, _⟩ => ⟨S4x512, .i32⟩
  | .local _ .vmem, ⟨5, _⟩ => ⟨S768x512, .i8⟩
  | .local _ .vmem, ⟨6, _⟩ => ⟨S768x512, .i8⟩
  | .local _ .vmem, ⟨7, _⟩ => ⟨S768x16384, .bf16⟩
  | .local _ .vmem, ⟨8, _⟩ => ⟨S768x128, .f32⟩
  | .local _ .vmem, ⟨9, _⟩ => ⟨S768x512, .f32⟩
  | .local _ .smem, ⟨0, _⟩ => ⟨S2, .i32⟩
  | _, _ => ⟨S2x384x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_36 : BitVec 32 := 0#32
  let c16_i32_37 : BitVec 32 := 16#32
  let v113 : BitVec 32 := Scalar.addi c0_i32_36 c16_i32_37
  let c1_i32_38 : BitVec 32 := 1#32
  ⟨c0_i32_36, v113, c1_i32_38⟩
def k0_off1 (k0_t1 : Fin k0_t1_loop.trips) : Fin 2 → Nat :=
  let c0_47 : Index := 0#32
  let c0_i32_46 : BitVec 32 := 0#32
  let c0_i32_36 : BitVec 32 := 0#32
  let c1_i32_38 : BitVec 32 := 1#32
  let arg9 : BitVec 32 := Scf.iv c0_i32_36 c1_i32_38 k0_t1
  let c1_i32_45 : BitVec 32 := 1#32
  let v122 : BitVec 32 := Scalar.muli arg9 c1_i32_45
  let v123 : BitVec 32 := Scalar.addi c0_i32_46 v122
  let c1024_i32 : BitVec 32 := 1024#32
  let v124 : BitVec 32 := Scalar.muli v123 c1024_i32
  let v125 : Index := Scalar.indexCast v124
  ![0, v125.toNat]
@[reducible] def k0_t2_loop : Scf.Loop 32 :=
  let c0_i32_3 : BitVec 32 := 0#32
  let c16_i32 : BitVec 32 := 16#32
  let v8 : BitVec 32 := Scalar.addi c0_i32_3 c16_i32
  let c1_i32 : BitVec 32 := 1#32
  ⟨c0_i32_3, v8, c1_i32⟩
def k0_off2 (k0_t2 : Fin k0_t2_loop.trips) : Fin 2 → Nat :=
  let c0_i32_3 : BitVec 32 := 0#32
  let c1_i32 : BitVec 32 := 1#32
  let arg9 : BitVec 32 := Scf.iv c0_i32_3 c1_i32 k0_t2
  let c512_i32 : BitVec 32 := 512#32
  let v109 : BitVec 32 := Scalar.muli arg9 c512_i32
  let v110 : Index := Scalar.indexCast v109
  let c0_33 : Index := 0#32
  ![v110.toNat, 0]
def k0_off3 (k0_t2 : Fin k0_t2_loop.trips) : Fin 2 → Nat :=
  let c0_40 : Index := 0#32
  let c0_i32_3 : BitVec 32 := 0#32
  let c1_i32 : BitVec 32 := 1#32
  let arg9 : BitVec 32 := Scf.iv c0_i32_3 c1_i32 k0_t2
  let c1024_i32 : BitVec 32 := 1024#32
  let v131 : BitVec 32 := Scalar.muli arg9 c1024_i32
  let v132 : Index := Scalar.indexCast v131
  ![0, v132.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x16384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x384x16384 : Shape := ⟨3, ![2, 384, 16384]⟩
abbrev S_ : Shape := ⟨0, ![]⟩
abbrev S8192x3584 : Shape := ⟨2, ![8192, 3584]⟩
abbrev S3584 : Shape := ⟨1, ![3584]⟩
abbrev S2x384x8192 : Shape := ⟨3, ![2, 384, 8192]⟩
abbrev S2x384x8192x1 : Shape := ⟨4, ![2, 384, 8192, 1]⟩
abbrev S1x1x8192x3584 : Shape := ⟨4, ![1, 1, 8192, 3584]⟩
abbrev S2x384x8192x3584 : Shape := ⟨4, ![2, 384, 8192, 3584]⟩
abbrev S2x384x3584 : Shape := ⟨3, ![2, 384, 3584]⟩
abbrev S2x384 : Shape := ⟨2, ![2, 384]⟩
abbrev S2x384x1 : Shape := ⟨3, ![2, 384, 1]⟩
abbrev S1x1x3584 : Shape := ⟨3, ![1, 1, 3584]⟩

abbrev nBuf : Space → Nat
  | .hbm => 172
  | .vmem => 0
  | .smem => 0
  | _ => 0

abbrev hbmTy0_0 (i : Nat) : BufTy := match i % 128 with
  | 0 => ⟨S2x384x16384, .i8⟩
  | 1 => ⟨S_, .i32⟩
  | 2 => ⟨S8192x3584, .i8⟩
  | 3 => ⟨S3584, .i32⟩
  | 4 => ⟨S3584, .i32⟩
  | 5 => ⟨S3584, .i32⟩
  | 6 => ⟨S3584, .i32⟩
  | 7 => ⟨S_, .i32⟩
  | 8 => ⟨S2x384x16384, .i32⟩
  | 9 => ⟨S8192x3584, .i32⟩
  | 10 => ⟨S_, .i32⟩
  | 11 => ⟨S8192x3584, .i32⟩
  | 12 => ⟨S8192x3584, .i32⟩
  | 13 => ⟨S_, .i32⟩
  | 14 => ⟨S8192x3584, .i32⟩
  | 15 => ⟨S8192x3584, .i32⟩
  | 16 => ⟨S2x384x8192, .i32⟩
  | 17 => ⟨S2x384x8192x1, .i32⟩
  | 18 => ⟨S1x1x8192x3584, .i32⟩
  | 19 => ⟨S2x384x8192x3584, .i32⟩
  | 20 => ⟨S2x384x8192x3584, .i32⟩
  | 21 => ⟨S2x384x8192x3584, .i32⟩
  | 22 => ⟨S_, .i32⟩
  | 23 => ⟨S2x384x3584, .i32⟩
  | 24 => ⟨S2x384x8192, .i32⟩
  | 25 => ⟨S2x384x8192x1, .i32⟩
  | 26 => ⟨S1x1x8192x3584, .i32⟩
  | 27 => ⟨S2x384x8192x3584, .i32⟩
  | 28 => ⟨S2x384x8192x3584, .i32⟩
  | 29 => ⟨S2x384x8192x3584, .i32⟩
  | 30 => ⟨S_, .i32⟩
  | 31 => ⟨S2x384x3584, .i32⟩
  | 32 => ⟨S2x384x3584, .i32⟩
  | 33 => ⟨S_, .i32⟩
  | 34 => ⟨S2x384, .i32⟩
  | 35 => ⟨S_, .i32⟩
  | 36 => ⟨S3584, .i32⟩
  | 37 => ⟨S_, .i32⟩
  | 38 => ⟨S3584, .i32⟩
  | 39 => ⟨S3584, .i32⟩
  | 40 => ⟨S2x384x1, .i32⟩
  | 41 => ⟨S1x1x3584, .i32⟩
  | 42 => ⟨S2x384x3584, .i32⟩
  | 43 => ⟨S2x384x3584, .i32⟩
  | 44 => ⟨S2x384x3584, .i32⟩
  | 45 => ⟨S2x384x3584, .i32⟩
  | 46 => ⟨S3584, .i32⟩
  | 47 => ⟨S3584, .i32⟩
  | 48 => ⟨S1x1x3584, .i32⟩
  | 49 => ⟨S2x384x3584, .i32⟩
  | 50 => ⟨S2x384x3584, .i32⟩
  | 51 => ⟨S_, .i32⟩
  | 52 => ⟨S_, .i32⟩
  | 53 => ⟨S3584, .i32⟩
  | 54 => ⟨S3584, .i32⟩
  | 55 => ⟨S1x1x3584, .i32⟩
  | 56 => ⟨S2x384x3584, .i32⟩
  | 57 => ⟨S2x384x3584, .i32⟩
  | 58 => ⟨S1x1x3584, .i32⟩
  | 59 => ⟨S2x384x3584, .i32⟩
  | 60 => ⟨S2x384x3584, .i32⟩
  | 61 => ⟨S_, .i32⟩
  | 62 => ⟨S2x384x3584, .i32⟩
  | 63 => ⟨S2x384x3584, .i1⟩
  | 64 => ⟨S2x384x3584, .i32⟩
  | 65 => ⟨S2x384x3584, .i32⟩
  | 66 => ⟨S3584, .i32⟩
  | 67 => ⟨S_, .i32⟩
  | 68 => ⟨S_, .i32⟩
  | 69 => ⟨S2x384x3584, .i32⟩
  | 70 => ⟨S2x384x3584, .i32⟩
  | 71 => ⟨S2x384x3584, .i32⟩
  | 72 => ⟨S_, .i32⟩
  | 73 => ⟨S2x384x3584, .i32⟩
  | 74 => ⟨S2x384x3584, .i32⟩
  | 75 => ⟨S_, .i32⟩
  | 76 => ⟨S2x384x3584, .i32⟩
  | 77 => ⟨S2x384x3584, .i32⟩
  | 78 => ⟨S_, .i32⟩
  | 79 => ⟨S3584, .i32⟩
  | 80 => ⟨S3584, .i32⟩
  | 81 => ⟨S_, .i32⟩
  | 82 => ⟨S3584, .i32⟩
  | 83 => ⟨S3584, .i32⟩
  | 84 => ⟨S1x1x3584, .i32⟩
  | 85 => ⟨S2x384x3584, .i32⟩
  | 86 => ⟨S2x384x3584, .i32⟩
  | 87 => ⟨S1x1x3584, .i32⟩
  | 88 => ⟨S2x384x3584, .i32⟩
  | 89 => ⟨S2x384x3584, .i32⟩
  | 90 => ⟨S1x1x3584, .i32⟩
  | 91 => ⟨S2x384x3584, .i32⟩
  | 92 => ⟨S2x384x3584, .i32⟩
  | 93 => ⟨S2x384x3584, .i32⟩
  | 94 => ⟨S1x1x3584, .i32⟩
  | 95 => ⟨S2x384x3584, .i32⟩
  | 96 => ⟨S2x384x3584, .i32⟩
  | 97 => ⟨S_, .i32⟩
  | 98 => ⟨S2x384x3584, .i32⟩
  | 99 => ⟨S2x384x3584, .i32⟩
  | 100 => ⟨S_, .i32⟩
  | 101 => ⟨S2x384x3584, .i32⟩
  | 102 => ⟨S2x384x3584, .i32⟩
  | 103 => ⟨S2x384x3584, .i32⟩
  | 104 => ⟨S_, .i32⟩
  | 105 => ⟨S2x384x3584, .i32⟩
  | 106 => ⟨S2x384x3584, .i32⟩
  | 107 => ⟨S_, .i32⟩
  | 108 => ⟨S2x384x3584, .i32⟩
  | 109 => ⟨S2x384x3584, .i32⟩
  | 110 => ⟨S_, .i32⟩
  | 111 => ⟨S2x384x3584, .i32⟩
  | 112 => ⟨S2x384x3584, .i32⟩
  | 113 => ⟨S2x384x3584, .i32⟩
  | 114 => ⟨S_, .i32⟩
  | 115 => ⟨S2x384x3584, .i32⟩
  | 116 => ⟨S2x384x3584, .i32⟩
  | 117 => ⟨S2x384x3584, .i32⟩
  | 118 => ⟨S_, .i32⟩
  | 119 => ⟨S2x384x3584, .i32⟩
  | 120 => ⟨S2x384x3584, .i32⟩
  | 121 => ⟨S2x384x3584, .i32⟩
  | 122 => ⟨S2x384x3584, .i32⟩
  | 123 => ⟨S2x384x3584, .i1⟩
  | 124 => ⟨S2x384x3584, .i32⟩
  | 125 => ⟨S2x384x3584, .i32⟩
  | 126 => ⟨S_, .i32⟩
  | 127 => ⟨S2x384x3584, .i32⟩
  | _ => ⟨S2x384x16384, .i8⟩

abbrev hbmTy0_1 (i : Nat) : BufTy := match i % 128 with
  | 0 => ⟨S2x384x3584, .i32⟩
  | 1 => ⟨S_, .i32⟩
  | 2 => ⟨S2x384x3584, .i32⟩
  | 3 => ⟨S2x384x3584, .i32⟩
  | 4 => ⟨S2x384x3584, .i32⟩
  | 5 => ⟨S2x384x3584, .i32⟩
  | 6 => ⟨S2x384x3584, .i32⟩
  | 7 => ⟨S2x384x3584, .i32⟩
  | 8 => ⟨S_, .i32⟩
  | 9 => ⟨S3584, .i32⟩
  | 10 => ⟨S3584, .i32⟩
  | 11 => ⟨S_, .i32⟩
  | 12 => ⟨S3584, .i32⟩
  | 13 => ⟨S3584, .i32⟩
  | 14 => ⟨S1x1x3584, .i32⟩
  | 15 => ⟨S2x384x3584, .i32⟩
  | 16 => ⟨S2x384x3584, .i32⟩
  | 17 => ⟨S_, .i32⟩
  | 18 => ⟨S3584, .i32⟩
  | 19 => ⟨S3584, .i32⟩
  | 20 => ⟨S_, .i32⟩
  | 21 => ⟨S2x384x3584, .i32⟩
  | 22 => ⟨S2x384x3584, .i1⟩
  | 23 => ⟨S2x384x3584, .i32⟩
  | 24 => ⟨S1x1x3584, .i32⟩
  | 25 => ⟨S2x384x3584, .i32⟩
  | 26 => ⟨S2x384x3584, .i32⟩
  | 27 => ⟨S1x1x3584, .i32⟩
  | 28 => ⟨S2x384x3584, .i32⟩
  | 29 => ⟨S2x384x3584, .i32⟩
  | 30 => ⟨S2x384x3584, .i1⟩
  | 31 => ⟨S2x384x3584, .i32⟩
  | 32 => ⟨S2x384x3584, .i32⟩
  | 33 => ⟨S2x384x3584, .i32⟩
  | 34 => ⟨S2x384x3584, .i32⟩
  | 35 => ⟨S_, .i32⟩
  | 36 => ⟨S_, .i32⟩
  | 37 => ⟨S_, .i32⟩
  | 38 => ⟨S2x384x3584, .i32⟩
  | 39 => ⟨S2x384x3584, .i32⟩
  | 40 => ⟨S_, .i32⟩
  | 41 => ⟨S2x384x3584, .i32⟩
  | 42 => ⟨S2x384x3584, .i32⟩
  | 43 => ⟨S2x384x3584, .i8⟩
  | _ => ⟨S2x384x16384, .i8⟩

abbrev hbmTy (i : Nat) : BufTy := match i / 128 with
  | 0 => hbmTy0_0 i
  | 1 => hbmTy0_1 i
  | _ => ⟨S2x384x16384, .i8⟩

abbrev bufTy : (tb : Table) → Fin (tcTables nBuf tb) → BufTy
  | .hbm, ⟨i, _⟩ => hbmTy i
  | _, _ => ⟨S2x384x16384, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_c_9 : Ref sig .tc := ⟨.hbm, 68, rfl⟩
abbrev main_call0_v0 : Ref sig .tc := ⟨.hbm, 69, rfl⟩
abbrev main_call0_v1 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_19 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_20 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_21 : Ref sig .tc := ⟨.hbm, 126, rfl⟩
abbrev main_v94 : Ref sig .tc := ⟨.hbm, 127, rfl⟩
abbrev main_v95 : Ref sig .tc := ⟨.hbm, 128, rfl⟩
abbrev main_c_22 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_23 : Ref sig .tc := ⟨.hbm, 136, rfl⟩
abbrev main_v102 : Ref sig .tc := ⟨.hbm, 137, rfl⟩
abbrev main_v103 : Ref sig .tc := ⟨.hbm, 138, rfl⟩
abbrev main_c_24 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_25 : Ref sig .tc := ⟨.hbm, 145, rfl⟩
abbrev main_v109 : Ref sig .tc := ⟨.hbm, 146, rfl⟩
abbrev main_v110 : Ref sig .tc := ⟨.hbm, 147, rfl⟩
abbrev main_c_26 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_27 : Ref sig .tc := ⟨.hbm, 163, rfl⟩
abbrev main_c_28 : Ref sig .tc := ⟨.hbm, 164, rfl⟩
abbrev main_call2_v0 : Ref sig .tc := ⟨.hbm, 165, rfl⟩
abbrev main_call2_v1 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_v125 : Ref sig .tc := ⟨.hbm, 170, rfl⟩
abbrev main_v126 : Ref sig .tc := ⟨.hbm, 171, rfl⟩

abbrev nD : Nat := 1
abbrev τ : Topo := Topo.v7x

variable {F : FTy → Type} [FloatOps F]
-- ==== Proof.KLoops.lean ====
/-
  What the kernel's two counted loops leave, in plain terms.

  The first loop (point 0 only) fills the converted copy of `x`, one block of 1024 columns per trip, and adds the
  trip's columns into 128 lanes of row sums. The second loop (every point) adds one product of 1024 rows per trip into
  the accumulator and carries the column sums of the weights.
-/
module

public import proofs.«01_k».proof.Proof.Gen.Kernel.Loops
public import Idealize.ShloMosaic.Lib.Pipeline.FrameBody
public import Idealize.ShloMosaic.Lib.Pipeline.Value
public import Idealize.ShloMosaic.Lib.Pipeline.ValueKit.Tiles
public import Idealize.ShloMosaic.Lib.WritesUnit
public import Idealize.ShloMosaic.Lib.VecWindow
public import Idealize.ShloMosaic.Lib.Pointwise

@[expose] public section

set_option maxRecDepth 8192

noncomputable section

namespace Cert.Kernel.Value

open Idealize.ShloMosaic Idealize.ShloMosaic.TcCoe Idealize.ShloMosaic.Tactic
open Idealize.SL Idealize.SL.RA Idealize.SL.BI Idealize.SL.Sem
open Cert.Kernel Cert.Kernel.Gen

variable {F : FTy → Type} [FloatOps F]

theorem hz : (![0, 0] : Fin 2 → Nat) = fun _ => 0 := funext fun a => by fin_cases a <;> rfl

/-- Block `k` of 1024 columns of an array of 16384 columns. -/
def colBlk {E : Type} (x : S768x16384.Idx → E) (k : ℕ) : S768x1024.Idx → E :=
  fun p => x (ix2 (p 0) ⟨(1024 * k + (p 1).val) % 16384, Nat.mod_lt _ (by decide)⟩)

/-- Block `k` of 512 packed rows of the packed weights. -/
def rowBlk {E : Type} (w : S8192x512.Idx → E) (k : ℕ) : S512x512.Idx → E :=
  fun p => w (ix2 ⟨(512 * k + (p 0).val) % 8192, Nat.mod_lt _ (by decide)⟩ (p 1))

/-- The converted copy of `x`: the byte with its top bit flipped, read as a signed number. -/
def XB (x : Vec F S768x16384 .i8) : Vec F S768x16384 .bf16 :=
  sitofp (F := F) .bf16 (xori (w := 8) x (broadcast S768x16384 128#8))

/-- The 128 lanes of row sums before trip `k` of the first loop. -/
def RS (x : Vec F S768x16384 .i8) : ℕ → Vec F S768x128 .f32
  | 0 => k0_pay2
  | k + 1 => k0_pay5 (colBlk x k) (RS x k)

/-- The accumulator before trip `k` of the second loop. -/
def ACC (w : Vec F S8192x512 .i8) (xb : Vec F S768x16384 .bf16) : ℕ → Vec F S768x512 .f32
  | 0 => k0_pay7
  | k + 1 => k0_pay10 (rowBlk w k) (ACC w xb k) (colBlk xb k)

/-- The column sums of the weights before trip `k` of the second loop. -/
def CS (w : Vec F S8192x512 .i8) : ℕ → FVec F S1x512 .f32
  | 0 => k0_pay8
  | k + 1 => k0_pay11 (CS w k) (rowBlk w k)

theorem trips1 : k0_t1_loop.trips = 16 := by decide +kernel
theorem trips2 : k0_t2_loop.trips = 16 := by decide +kernel

/-- A load of the 1024 columns that a closed-form offset names is that block of columns. -/
theorem ld_colBlk {E : EltTy → Type} {e : EltTy} (x : S768x16384.Idx → E e) (k : ℕ) (hk : k < 16) {off : Fin 2 → ℕ} (ho : off = ![0, 1024 * k])
    (inb) : View.ld (Val := E) x (Rect.unit (s := S768x16384) off S768x1024.size inb) = colBlk x k := by
  subst ho
  funext p
  refine View.ld_unit_apply_of x _ _ _ p _ fun a => ?_
  have h1 : (p 1).val < 1024 := (p 1).isLt
  match a with
  | ⟨0, _⟩ => show (p 0).val = 0 + (p 0).val; omega
  | ⟨1, _⟩ => show (1024 * k + (p 1).val) % 16384 = 1024 * k + (p 1).val; omega

/-- A load of the 512 packed rows that a closed-form offset names is that block of rows. -/
theorem ld_rowBlk {E : EltTy → Type} {e : EltTy} (w : S8192x512.Idx → E e) (k : ℕ) (hk : k < 16) {off : Fin 2 → ℕ} (ho : off = ![512 * k, 0])
    (inb) : View.ld (Val := E) w (Rect.unit (s := S8192x512) off S512x512.size inb) = rowBlk w k := by
  subst ho
  funext p
  refine View.ld_unit_apply_of w _ _ _ p _ fun a => ?_
  have h1 : (p 0).val < 512 := (p 0).isLt
  match a with
  | ⟨0, _⟩ => show (512 * k + (p 0).val) % 8192 = 512 * k + (p 0).val; omega
  | ⟨1, _⟩ => show (p 1).val = 0 + (p 1).val; omega

/-- The block that a trip of the first loop stores is the same block of the converted copy. -/
theorem pay4_colBlk (x : Vec F S768x16384 .i8) (k : ℕ) : k0_pay4 (F := F) (colBlk x k) = colBlk (XB x) k := by
  unfold k0_pay4 k0_pay3
  simp only [shapeCast_self]
  rfl

section
variable (𝒱 : Variants) (c : Dev nD) (bd : Option 𝒱.V) (i : grid0.Coords)
  (a1 : Memref sig .tc .smem S2 .i32) (h1 : a1.IsWhole) (a2 : Memref sig .tc .vmem S768x16384 .i8) (h2 : a2.IsWhole)
  (a3 : Memref sig .tc .vmem S8192x512 .i8) (h3 : a3.IsWhole) (a4 : Memref sig .tc .vmem S4x512 .i32) (h4 : a4.IsWhole)
  (a5 : Memref sig .tc .vmem S768x512 .i8) (h5 : a5.IsWhole) (a6 : Memref sig .tc .vmem S768x16384 .bf16) (h6 : a6.IsWhole)
  (a7 : Memref sig .tc .vmem S768x128 .f32) (h7 : a7.IsWhole) (a8 : Memref sig .tc .vmem S768x512 .f32) (h8 : a8.IsWhole)

/-- After `k` trips of the first loop: the first `1024 k` columns of the copy are filled and the lanes hold the sums so
    far, whatever the copy held before. -/
theorem first_loop (hc : k0_cond1 i = 1#1) (X2 : BufTy.Contents (Elt F) a2.view.ty)
    (G6 : BufTy.Contents (Elt F) a6.view.ty) (G7 : BufTy.Contents (Elt F) a7.view.ty)
    (hG : a7.view.read (Elt F) G7 = k0_pay2) (k : ℕ) (hk : k ≤ 16) :
    a7.view.read (Elt F) (a7.view.writes (Elt F) G7 (pb_k0_t1 (F := F) 𝒱 c bd i a1 h1 a2 h2 a3 h3 a4 h4 a5 h5 a6 h6 a7 h7 a8 h8 hc X2 G6 G7 k).2)
        = RS (a2.view.read (Elt F) X2) k
    ∧ ∀ p : S768x16384.Idx, (p 1).val < 1024 * k →
        a6.view.read (Elt F) (a6.view.writes (Elt F) G6 (pb_k0_t1 (F := F) 𝒱 c bd i a1 h1 a2 h2 a3 h3 a4 h4 a5 h5 a6 h6 a7 h7 a8 h8 hc X2 G6 G7 k).1) p
          = XB (a2.view.read (Elt F) X2) p := by
  induction k with
  | zero => exact ⟨hG, fun p hp => absurd hp (by omega)⟩
  | succ k ih =>
    obtain ⟨ih7, ih6⟩ := ih (by omega)
    have hkt : k < k0_t1_loop.trips := by rw [trips1]; omega
    have hs := pb_k0_t1_succ (F := F) 𝒱 c bd i a1 h1 a2 h2 a3 h3 a4 h4 a5 h5 a6 h6 a7 h7 a8 h8 hc X2 G6 G7 ⟨k, hkt⟩
    dsimp only at hs
    rw [hs]
    unfold trip_k0_t1
    dsimp only [List.cons_append, List.nil_append]
    constructor
    · refine (View.read_writes_full _ _ _ _ _).trans ?_
      rw [View.readAt_eq_ld, View.readAt_eq_ld]
      refine congrArg₂ k0_pay5 (ld_colBlk (E := Elt F) (e := .i8) _ k (by omega) (k0_off1_eq _) _) ?_
      exact (View.ld_unit_zero (S := S768x128) hz _ _).trans ih7
    · intro p hp
      have h1 : (p 1).val < 16384 := (p 1).isLt
      by_cases hlt : (p 1).val < 1024 * k
      · refine (View.read_writes_cons_unit_of_not_mem _ _ _ _ _ p (k0_off1_eq ⟨k, hkt⟩) 1 (.inl hlt)).trans (ih6 p hlt)
      · refine (View.read_writes_cons_unit_of_mem _ _ _ _ _ p (ix2 (p 0) ⟨(p 1).val - 1024 * k, by omega⟩) (k0_off1_eq ⟨k, hkt⟩) fun a => ?_).trans ?_
        · match a with
          | ⟨0, _⟩ => show (p 0).val = 0 + (p 0).val; omega
          | ⟨1, _⟩ => show (p 1).val = 1024 * k + ((p 1).val - 1024 * k); omega
        · rw [View.readAt_eq_ld]
          refine (congrFun (congrArg k0_pay4 (ld_colBlk (E := Elt F) (e := .i8) _ k (by omega) (k0_off1_eq _) _)) _).trans ?_
          rw [pay4_colBlk]
          unfold colBlk
          refine congrArg _ ((eq_ix2 p).trans ?_).symm
          refine congrArg (ix2 (p 0)) (Fin.ext ?_)
          show (p 1).val = (1024 * k + ((p 1).val - 1024 * k)) % 16384
          omega

/-- After `k` trips of the second loop: the carried column sums and the accumulator, from a zeroed accumulator. -/
theorem second_loop (X3 : BufTy.Contents (Elt F) a3.view.ty) (X6 : BufTy.Contents (Elt F) a6.view.ty)
    (G8 : BufTy.Contents (Elt F) a8.view.ty) (hG : a8.view.read (Elt F) G8 = k0_pay7) (k : ℕ) (hk : k ≤ 16) :
    (st_k0_t2 (F := F) 𝒱 c bd i a1 h1 a2 h2 a3 h3 a4 h4 a5 h5 a6 h6 a7 h7 a8 h8 X3 X6 G8 k0_pay8 k).1
        = CS (a3.view.read (Elt F) X3) k
    ∧ a8.view.read (Elt F) (a8.view.writes (Elt F) G8 (st_k0_t2 (F := F) 𝒱 c bd i a1 h1 a2 h2 a3 h3 a4 h4 a5 h5 a6 h6 a7 h7 a8 h8 X3 X6 G8 k0_pay8 k).2)
        = ACC (a3.view.read (Elt F) X3) (a6.view.read (Elt F) X6) k := by
  induction k with
  | zero => exact ⟨rfl, hG⟩
  | succ k ih =>
    obtain ⟨ih1, ih8⟩ := ih (by omega)
    have hkt : k < k0_t2_loop.trips := by rw [trips2]; omega
    have hs := st_k0_t2_succ (F := F) 𝒱 c bd i a1 h1 a2 h2 a3 h3 a4 h4 a5 h5 a6 h6 a7 h7 a8 h8 X3 X6 G8 k0_pay8 ⟨k, hkt⟩
    dsimp only at hs
    rw [hs]
    unfold tripL_k0_t2 tripR_k0_t2 trip_k0_t2
    dsimp only [List.cons_append, List.nil_append]
    constructor
    · rw [View.readAt_eq_ld, ih1]
      exact congrArg (k0_pay11 _) (ld_rowBlk (E := Elt F) (e := .i8) _ k (by omega) (k0_off2_eq _) _)
    · refine (View.read_writes_full _ _ _ _ _).trans ?_
      rw [View.readAt_eq_ld, View.readAt_eq_ld, View.readAt_eq_ld]
      have e1 := ld_rowBlk (E := Elt F) (e := .i8) (a3.view.read (Elt F) X3) k (by omega) (k0_off2_eq ⟨k, hkt⟩) (k0_off2_inb _)
      have e2 := ld_colBlk (E := Elt F) (e := .bf16) (a6.view.read (Elt F) X6) k (by omega) (k0_off3_eq ⟨k, hkt⟩) (k0_off3_inb _)
      have e3 := (View.ld_unit_zero (S := S768x512) hz inb_S768x512_S768x512_0_0 _).trans ih8
      exact (congrArg (fun z => k0_pay10 z _ _) e1).trans ((congrArg (fun z => k0_pay10 _ z _) e3).trans (congrArg (fun z => k0_pay10 _ _ z) e2))
end

end Cert.Kernel.Value

end
-- ==== Proof.KRun.lean ====
/-
  What the kernel's body leaves at one point of its grid: at the first point, where it also fills the converted copy
  of `x` and the row sums, and at a later one, where it finds both.
-/
module

public import proofs.«01_k».proof.Proof.KLoops
public import proofs.«01_k».proof.Proof.Gen.Kernel.Frame

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The row sums the first point leaves: the 128 lanes of every row added up and put back in every lane. -/
def RSF (x : Vec F S768x16384 .i8) : Vec F S768x128 .f32 := k0_pay6 (RS x 16)

/-- Row `r` of the four rows of per-column parameters. -/
def colRow (cols : Vec F S4x512 .i32) (r : Fin 4) : Vec F S1x512 .i32 := fun p => cols (ix2 r (p 1))

/-- The block of results that the body stores, from the two zero points, the converted copy of `x`, its row sums, the
    block of packed weights and the block of per-column parameters. -/
def OUT (zps : Vec F S2 .i32) (xb : Vec F S768x16384 .bf16) (rs : Vec F S768x128 .f32) (w : Vec F S8192x512 .i8)
    (cols : Vec F S4x512 .i32) : Vec F S768x512 .i8 :=
  k0_pay1 (k0_pay15 (colRow cols 3)) (zps (ix1 1))
    (k0_pay16 (k0_pay13 (colRow cols 0) (ACC w xb 16) (fun p => rs (ix2 (p 0) 0)))
      (k0_pay14 (CS w 16) (zps (ix1 0)) (colRow cols 0) (colRow cols 1)) (colRow cols 2))
    (k0_pay17 (colRow cols 3))

section
variable (c : Dev nD) (i : grid0.Coords)
  (a1 : Memref sig .tc .smem S2 .i32) (h1 : a1.IsWhole) (a2 : Memref sig .tc .vmem S768x16384 .i8) (h2 : a2.IsWhole)
  (a3 : Memref sig .tc .vmem S8192x512 .i8) (h3 : a3.IsWhole) (a4 : Memref sig .tc .vmem S4x512 .i32) (h4 : a4.IsWhole)
  (a5 : Memref sig .tc .vmem S768x512 .i8) (h5 : a5.IsWhole) (a6 : Memref sig .tc .vmem S768x16384 .bf16) (h6 : a6.IsWhole)
  (a7 : Memref sig .tc .vmem S768x128 .f32) (h7 : a7.IsWhole) (a8 : Memref sig .tc .vmem S768x512 .f32) (h8 : a8.IsWhole)
  (x0 : Vec F S2 .i32) (x1 : Vec F S768x16384 .i8) (x2 : Vec F S8192x512 .i8) (x3 : Vec F S4x512 .i32)

theorem readAt_row (X : BufTy.Contents (Elt F) a4.view.ty) (r : Fin 4) {off : Fin 2 → ℕ} (ho : off = ![r.val, 0]) (inb) :
    View.readAt (Elt F) a4.view (Rect.unit (s := S4x512) off S1x512.size inb).toLoadRect X = colRow (a4.view.read (Elt F) X) r := by
  subst ho
  rw [View.readAt_eq_ld]
  funext p
  refine View.ld_unit_apply_of (a4.view.read (Elt F) X) _ _ _ p (ix2 r (p 1)) fun a => ?_
  have hp : (p 0).val < 1 := (p 0).isLt
  match a with
  | ⟨0, _⟩ => show r.val = r.val + (p 0).val; omega
  | ⟨1, _⟩ => show (p 1).val = 0 + (p 1).val; omega

theorem readAt_zp (X : BufTy.Contents (Elt F) a1.view.ty) (r : Fin 2) {off : Fin 1 → ℕ} (ho : off = ![r.val]) (inb) (p : S1.Idx) :
    View.readAt (Elt F) a1.view (Rect.unit (s := S2) off S1.size inb).toLoadRect X p = a1.view.read (Elt F) X (ix1 r) := by
  subst ho
  rw [View.readAt_eq_ld]
  refine View.ld_unit_apply_of (a1.view.read (Elt F) X) _ _ _ p (ix1 r) fun a => ?_
  have hp : (p 0).val < 1 := (p 0).isLt
  match a with
  | ⟨0, _⟩ => show r.val = r.val + (p 0).val; omega

theorem readAt_lane (X : BufTy.Contents (Elt F) a7.view.ty) (inb) :
    View.readAt (Elt F) a7.view (Rect.unit (s := S768x128) ![0, 0] S768x1.size inb).toLoadRect X = fun p => a7.view.read (Elt F) X (ix2 (p 0) 0) := by
  rw [View.readAt_eq_ld]
  funext p
  refine View.ld_unit_apply_of (a7.view.read (Elt F) X) _ _ _ p (ix2 (p 0) 0) fun a => ?_
  have hp : (p 1).val < 1 := (p 1).isLt
  match a with
  | ⟨0, _⟩ => show (p 0).val = 0 + (p 0).val; omega
  | ⟨1, _⟩ => show (0 : ℕ) = 0 + (p 1).val; omega

theorem readCov_all {sp : Space} {s : Shape} {e : EltTy} (a : Memref sig .tc sp s e) (L L' : List (View.Piece (Elt F) s e)) {off : Fin s.rank → ℕ}
    (ho : off = fun _ => 0) (inb) (y : Vec F s e)
    (h : a.view.read (Elt F) (a.view.writes (Elt F) (a.view.writes (Elt F) a.view.junk L') L) = y) :
    a.view.readCov (L ++ L') (Rect.unit (s := s) off s.size inb).toLoadRect = y := by
  unfold View.readCov
  rw [View.writes_append, View.readAt_eq_ld, h]
  exact View.ld_unit_zero (S := s) ho _ _

/-- What the body stores, with its loads read off the buffers. -/
theorem out_eq (X1 : BufTy.Contents (Elt F) a1.view.ty) (X4 : BufTy.Contents (Elt F) a4.view.ty)
    (p1 p2 : S1.Idx) (v9 : FVec F S1x512 .f32) (v26 : Vec F S768x512 .f32) (v28 : Vec F S768x1 .f32) (w : Vec F S8192x512 .i8) (xb : Vec F S768x16384 .bf16)
    (rs : Vec F S768x128 .f32) (h9 : v9 = CS w 16) (h26 : v26 = ACC w xb 16) (h28 : v28 = fun p => rs (ix2 (p 0) 0)) :
    k0_pay1 (k0_pay15 (View.readAt (Elt F) a4.view (Rect.unit (s := S4x512) ![3, 0] S1x512.size inb_S4x512_S1x512_3_0).toLoadRect X4))
      (View.readAt (Elt F) a1.view (Rect.unit (s := S2) ![1] S1.size inb_S2_S1_1).toLoadRect X1 p1)
      (k0_pay16
        (k0_pay13 (View.readAt (Elt F) a4.view (Rect.unit (s := S4x512) ![0, 0] S1x512.size inb_S4x512_S1x512_0_0).toLoadRect X4) v26 v28)
        (k0_pay14 v9
          (View.readAt (Elt F) a1.view (Rect.unit (s := S2) ![0] S1.size inb_S2_S1_0).toLoadRect X1 p2)
          (View.readAt (Elt F) a4.view (Rect.unit (s := S4x512) ![0, 0] S1x512.size inb_S4x512_S1x512_0_0).toLoadRect X4)
          (View.readAt (Elt F) a4.view (Rect.unit (s := S4x512) ![1, 0] S1x512.size inb_S4x512_S1x512_1_0).toLoadRect X4))
        (View.readAt (Elt F) a4.view (Rect.unit (s := S4x512) ![2, 0] S1x512.size inb_S4x512_S1x512_2_0).toLoadRect X4))
      (k0_pay17 (View.readAt (Elt F) a4.view (Rect.unit (s := S4x512) ![3, 0] S1x512.size inb_S4x512_S1x512_3_0).toLoadRect X4))
      = OUT (a1.view.read (Elt F) X1) xb rs w (a4.view.read (Elt F) X4) := by
  have r0 := readAt_row a4 X4 0 (off := ![0, 0]) rfl inb_S4x512_S1x512_0_0
  have r1 := readAt_row a4 X4 1 (off := ![1, 0]) rfl inb_S4x512_S1x512_1_0
  have r2 := readAt_row a4 X4 2 (off := ![2, 0]) rfl inb_S4x512_S1x512_2_0
  have r3 := readAt_row a4 X4 3 (off := ![3, 0]) rfl inb_S4x512_S1x512_3_0
  have z0 := readAt_zp a1 X1 0 (off := ![0]) rfl inb_S2_S1_0 p2
  have z1 := readAt_zp a1 X1 1 (off := ![1]) rfl inb_S2_S1_1 p1
  unfold OUT
  rw [r0, r1, r2, r3, z0, z1, h9, h26, h28]

set_option maxHeartbeats 6400000 in
/-- A later point: the body finds the converted copy and the row sums, leaves them, and stores the block of results. -/
theorem run_later (hc : ¬ k0_cond1 i = 1#1) (xb : Vec F S768x16384 .bf16) (rs : Vec F S768x128 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d) ∗ owns (c : Thread nD τ) a6 fullShare xb ∗ owns (c : Thread nD τ) a7 fullShare rs ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (OUT x0 xb rs x2 x3) ∗ owns (c : Thread nD τ) a6 fullShare xb ∗ owns (c : Thread nD τ) a7 fullShare rs ∗ (∃ d, owns (c : Thread nD τ) a8 fullShare d)) -∗ K ⟨⟩))
      ⊢ wp frame (wpE (defs₀ (F := F)) Variants.none c none) E (cc0__body i a1 h1 a2 h2 a3 h3 a4 h4 a5 h5 a6 h6 a7 h7 a8 h8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%ds2, %fs2, -, HS2⟩, Hk⟩
  sl_exec (disch := first | sl_exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr; swap; · iexact H4
    ipureintro
    refine (View.read_writes_full _ _ _ _ _).trans ?_
    delta run_later.sl.r_3 run_later.sl.r_4 run_later.sl.r_5 run_later.sl.r_6
    delta run_later.sl.r_1 run_later.sl.r_2 run_later.sl.r run_later.sl.v26
    subst hf0 hf2 hf3 hs0 hs1
    have hT : Scf.trips k0_t2_loop.lb k0_t2_loop.ub k0_t2_loop.st = 16 := trips2
    rw [hT]
    have hL := second_loop (F := F) Variants.none c none i a1 h1 a2 h2 a3 h3 a4 h4 a5 h5 a6 h6 a7 h7 a8 h8 f2 fs0
      (a8.view.writes (Elt F) a8.view.junk run_later.sl.HS2_1) (View.read_writes_full _ _ _ _ _) 16 le_rfl
    refine out_eq a1 a4 f0 f3 _ _ _ _ _ _ _ _ hL.1 ?_ ?_
    · exact readCov_all a8 _ _ hz _ _ hL.2
    · exact readAt_lane a7 _ _
  isplitl [HS0]; · iexists _; isplitr; · ipureintro; exact hs0
                   iexact HS0
  isplitl [HS1]; · iexists _; isplitr; · ipureintro; exact hs1
                   iexact HS1
  iexists _, _; isplitr; swap; · iexact HS2
  ipureintro; rfl

/-- The whole first loop fills the converted copy. -/
theorem first_copy (hc : k0_cond1 i = 1#1) (X2 : BufTy.Contents (Elt F) a2.view.ty)
    (G6 : BufTy.Contents (Elt F) a6.view.ty) (G7 : BufTy.Contents (Elt F) a7.view.ty) (hG : a7.view.read (Elt F) G7 = k0_pay2) :
    a6.view.read (Elt F) (a6.view.writes (Elt F) G6
        (pb_k0_t1 (F := F) Variants.none c none i a1 h1 a2 h2 a3 h3 a4 h4 a5 h5 a6 h6 a7 h7 a8 h8 hc X2 G6 G7 (Scf.trips k0_t1_loop.lb k0_t1_loop.ub k0_t1_loop.st)).1)
      = XB (a2.view.read (Elt F) X2) := by
  have hT : Scf.trips k0_t1_loop.lb k0_t1_loop.ub k0_t1_loop.st = 16 := trips1
  rw [hT]
  funext p
  exact (first_loop (F := F) Variants.none c none i a1 h1 a2 h2 a3 h3 a4 h4 a5 h5 a6 h6 a7 h7 a8 h8 hc X2 G6 G7 hG 16 le_rfl).2 p (p 1).isLt

/-- The whole first loop leaves the 128 lanes of row sums. -/
theorem first_sums (hc : k0_cond1 i = 1#1) (X2 : BufTy.Contents (Elt F) a2.view.ty)
    (G6 : BufTy.Contents (Elt F) a6.view.ty) (G7 : BufTy.Contents (Elt F) a7.view.ty) (hG : a7.view.read (Elt F) G7 = k0_pay2) :
    a7.view.read (Elt F) (a7.view.writes (Elt F) G7
        (pb_k0_t1 (F := F) Variants.none c none i a1 h1 a2 h2 a3 h3 a4 h4 a5 h5 a6 h6 a7 h7 a8 h8 hc X2 G6 G7 (Scf.trips k0_t1_loop.lb k0_t1_loop.ub k0_t1_loop.st)).2)
      = RS (a2.view.read (Elt F) X2) 16 := by
  have hT : Scf.trips k0_t1_loop.lb k0_t1_loop.ub k0_t1_loop.st = 16 := trips1
  rw [hT]
  exact (first_loop (F := F) Variants.none c none i a1 h1 a2 h2 a3 h3 a4 h4 a5 h5 a6 h6 a7 h7 a8 h8 hc X2 G6 G7 hG 16 le_rfl).1

set_option maxHeartbeats 6400000 in
/-- The first point: whatever the scratch buffers hold, the body fills the converted copy and the row sums, and stores
    the block of results. -/
theorem run_first (hc : k0_cond1 i = 1#1) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (OUT x0 (XB x1) (RSF x1) x2 x3) ∗ owns (c : Thread nD τ) a6 fullShare (XB x1) ∗ owns (c : Thread nD τ) a7 fullShare (RSF x1) ∗ (∃ d, owns (c : Thread nD τ) a8 fullShare d)) -∗ K ⟨⟩))
      ⊢ wp frame (wpE (defs₀ (F := F)) Variants.none c none) E (cc0__body i a1 h1 a2 h2 a3 h3 a4 h4 a5 h5 a6 h6 a7 h7 a8 h8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  subst hf0 hf1 hf2 hf3
  sl_exec (disch := first | sl_exact hc)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr; swap; · iexact H4
    ipureintro
    refine (View.read_writes_full _ _ _ _ _).trans ?_
    delta run_first.sl.r_3 run_first.sl.r_4 run_first.sl.r_5 run_first.sl.r_6
    delta run_first.sl.r_1 run_first.sl.r_2 run_first.sl.r run_first.sl.v26
    have hT : Scf.trips k0_t2_loop.lb k0_t2_loop.ub k0_t2_loop.st = 16 := trips2
    rw [hT]
    have hC := first_copy c i a1 h1 a2 h2 a3 h3 a4 h4 a5 h5 a6 h6 a7 h7 a8 h8 hc f1 fs0 (a7.view.writes (Elt F) a7.view.junk run_first.sl.HS1_1) (View.read_writes_full _ _ _ _ _)
    have hL := second_loop (F := F) Variants.none c none i a1 h1 a2 h2 a3 h3 a4 h4 a5 h5 a6 h6 a7 h7 a8 h8 f2 (a6.view.writes (Elt F) fs0 (pb_k0_t1 (F := F) Variants.none c none i a1 h1 a2 h2 a3 h3 a4 h4 a5 h5 a6 h6 a7 h7 a8 h8 hc f1 fs0 (a7.view.writes (Elt F) a7.view.junk run_first.sl.HS1_1) (Scf.trips k0_t1_loop.lb k0_t1_loop.ub k0_t1_loop.st)).1)
      (a8.view.writes (Elt F) a8.view.junk run_first.sl.HS2_1) (View.read_writes_full _ _ _ _ _) 16 le_rfl
    rw [hC] at hL
    refine out_eq a1 a4 f0 f3 _ _ _ _ _ _ _ _ hL.1 ?_ ?_
    · exact readCov_all a8 _ _ hz _ _ hL.2
    · delta run_first.sl.v28
      refine (readAt_lane a7 _ _).trans ?_
      funext p
      refine congrFun ((View.read_writes_full _ _ _ _ _).trans (congrArg k0_pay6 ?_)) (ix2 (p 0) 0)
      delta run_first.sl.v114
      refine readCov_all a7 _ _ hz _ _ ?_
      exact first_sums c i a1 h1 a2 h2 a3 h3 a4 h4 a5 h5 a6 h6 a7 h7 a8 h8 hc f1 fs0 _ (View.read_writes_full _ _ _ _ _)
  isplitl [HS0]; · iexists _; isplitr; swap; · iexact HS0
                   ipureintro
                   exact first_copy c i a1 h1 a2 h2 a3 h3 a4 h4 a5 h5 a6 h6 a7 h7 a8 h8 hc f1 fs0 _ (View.read_writes_full _ _ _ _ _)
  isplitl [HS1]; · iexists _; isplitr; swap; · iexact HS1
                   ipureintro
                   refine (View.read_writes_full _ _ _ _ _).trans (congrArg k0_pay6 ?_)
                   delta run_first.sl.v114
                   refine readCov_all a7 _ _ hz _ _ ?_
                   exact first_sums c i a1 h1 a2 h2 a3 h3 a4 h4 a5 h5 a6 h6 a7 h7 a8 h8 hc f1 fs0 _ (View.read_writes_full _ _ _ _ _)
  iexists _, _; isplitr; swap; · iexact HS2
  ipureintro; rfl
end

end Cert.Kernel.Value

end
-- ==== Proof.KBody.lean ====
/-
  The kernel's run: what every buffer of its pipeline holds at every point of its grid, the obligation of the body at a
  point, and from them the whole run of the program and its frame.
-/
module

public import proofs.«01_k».proof.Proof.KRun
public import Idealize.ShloMosaic.Lib.Claim

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch that fills the scratch is taken at the first point only. -/
theorem cond_iff : ∀ t : Fin grid0.N, k0_cond1 (grid0.coords t) = 1#1 ↔ t.val = 0 := by decide +kernel

/-- The three scratch buffers. -/
abbrev sc0 : Memref sig .tc .vmem S768x16384 .bf16 := Memref.whole cc0_scratch0
abbrev sc1 : Memref sig .tc .vmem S768x128 .f32 := Memref.whole cc0_scratch1
abbrev sc2 : Memref sig .tc .vmem S768x512 .f32 := Memref.whole cc0_scratch2

/-- The whole of `x`, as the pipeline stages it. -/
abbrev XW (c : Dev nD) : Vec F S768x16384 .i8 := iblk m c 1 t0_0

/-- What the body stores at point `t`. -/
def outAt (c : Dev nD) (t : Fin cfg0.N) : Vec F S768x512 .i8 :=
  OUT (iblk m c 0 t) (XB (XW m c)) (RSF (XW m c)) (iblk m c 2 t) (iblk m c 3 t)

/-- Between points: before the first the scratch buffers hold anything; afterwards the converted copy of `x` and its row
    sums, and anything in the accumulator. -/
def Phi (c : Dev nD) : ℕ → sProp 𝕄
  | 0 => Pipeline.ΦA spec0 c
  | _ + 1 => iprop(iprop(owns (c : Thread nD τ) sc0 fullShare (XB (XW m c)) ∗ owns (c : Thread nD τ) sc1 fullShare (RSF (XW m c)) ∗ (∃ d, owns (c : Thread nD τ) sc2 fullShare d)) ∗ (∃ r, prngReg c r))

theorem Phi_pos (c : Dev nD) (n : ℕ) (h : n ≠ 0) :
    Phi m c n = iprop(iprop(owns (c : Thread nD τ) sc0 fullShare (XB (XW m c)) ∗ owns (c : Thread nD τ) sc1 fullShare (RSF (XW m c)) ∗ (∃ d, owns (c : Thread nD τ) sc2 fullShare d)) ∗ (∃ r, prngReg c r)) := by
  cases n with
  | zero => exact absurd rfl h
  | succ n => rfl

/-- Before the first point, buffer by buffer. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA
  simp only [scopedRest0_eq, owns_whole]
  rfl

/-- The proof data of the pipeline: every input's buffer holds its block, the output's what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; rfl
theorem Phi_succ (c : Dev nD) (t : Fin cfg0.N) : (dats m 0 c).Φ t.succ = Phi m c (t.val + 1) := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The staging buffers at point `t`. -/
abbrev ms0 (t : Fin cfg0.N) : Memref sig .tc .smem S2 .i32 := win0_0.stage (cfg0.slots t 0)
abbrev ms1 (t : Fin cfg0.N) : Memref sig .tc .vmem S768x16384 .i8 := win0_1.stage (cfg0.slots t 1)
abbrev ms2 (t : Fin cfg0.N) : Memref sig .tc .vmem S8192x512 .i8 := win0_2.stage (cfg0.slots t 2)
abbrev ms3 (t : Fin cfg0.N) : Memref sig .tc .vmem S4x512 .i32 := win0_3.stage (cfg0.slots t 3)
abbrev ms4 (t : Fin cfg0.N) : Memref sig .tc .vmem S768x512 .i8 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, Phi_succ, Phi_castSucc, Phi_pos m c (t.val + 1) (Nat.succ_ne_zero _)]
  unfold outAt
  by_cases h0 : t.val = 0
  · obtain rfl : t = t0_0 := Fin.ext h0
    rw [h0, show Phi m c 0 = Pipeline.ΦA spec0 c from rfl, PhiA_eq]
    iintro ⟨⟨⟨HS0, HS1, HS2⟩, Hg⟩, Ho, ⟨%d0, H0⟩, ⟨%d1, H1⟩, ⟨%d2, H2⟩, ⟨%d3, H3⟩, ⟨%d4, H4⟩⟩
    iapply (run_first c (grid0.coords t0_0) _ _ _ _ _ _ _ _ _ _ _ _ _ _ _ _ (iblk m c 0 t0_0) (iblk m c 1 t0_0) (iblk m c 2 t0_0) (iblk m c 3 t0_0) ((cond_iff t0_0).mpr h0) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4
  · rw [Phi_pos m c t.val h0]
    iintro ⟨⟨⟨HS0, HS1, HS2⟩, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ _ _ _ _ (iblk m c 0 t) (iblk m c 1 t) (iblk m c 2 t) (iblk m c 3 t) (fun h => h0 ((cond_iff t).mp h)) _ _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over what holds before the first point. -/
theorem hin (c : Dev nD) : Pipeline.ΦA spec0 c ⊢ (dats m 0 c).Φ 0 := by
  rw [show (dats m 0 c).Φ 0 = Pipeline.ΦA spec0 c from rfl]

/-- After the last point the scratch buffers are handed back. -/
theorem hout (c : Dev nD) : (dats m 0 c).Φ (Fin.last cfg0.N) ⊢ Pipeline.ΦA spec0 c := by
  rw [show (dats m 0 c).Φ (Fin.last cfg0.N) = Phi m c cfg0.N from rfl, Phi_pos m c _ (by rw [show cfg0.N = 7 from N_0]; decide), PhiA_eq]
  iintro ⟨⟨HS0, HS1, HS2⟩, Hg⟩
  isplitl [HS0 HS1 HS2]
  · isplitl [HS0]; · iexists _; iexact HS0
    isplitl [HS1]; · iexists _; iexact HS1
    iexact HS2
  iexact Hg

set_option backward.isDefEq.respectTransparency.types false in
set_option maxHeartbeats 800000 in
/-- The run of the whole program: it ends with the pipeline's arrays at what the proof data says, every other buffer at
    what the host operations make of them, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the program terminates without a fault, its arguments end unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel.Value

end
-- ==== Proof.Loops.lean ====
/-
  What the kernel's two counted loops leave, in plain terms.

  The first loop (point 0 only) fills the converted copy of `x`, one block of 1024 columns per trip, and adds the
  trip's columns into 128 lanes of row sums. The second loop (every point) adds one product of 1024 rows per trip into
  the accumulator and carries the column sums of the weights.
-/
module

public import proofs.«01_k».proof.Proof.Gen.KernelIdeal.Loops
public import Idealize.ShloMosaic.Lib.Pipeline.FrameBody
public import Idealize.ShloMosaic.Lib.Pipeline.Value
public import Idealize.ShloMosaic.Lib.Pipeline.ValueKit.Tiles
public import Idealize.ShloMosaic.Lib.WritesUnit
public import Idealize.ShloMosaic.Lib.VecWindow
public import Idealize.ShloMosaic.Lib.Pointwise

@[expose] public section

set_option maxRecDepth 8192

noncomputable section

namespace Cert.KernelIdeal.Value

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F]

theorem hz : (![0, 0] : Fin 2 → Nat) = fun _ => 0 := funext fun a => by fin_cases a <;> rfl

/-- Block `k` of 1024 columns of an array of 16384 columns. -/
def colBlk {E : Type} (x : S768x16384.Idx → E) (k : ℕ) : S768x1024.Idx → E :=
  fun p => x (ix2 (p 0) ⟨(1024 * k + (p 1).val) % 16384, Nat.mod_lt _ (by decide)⟩)

/-- Block `k` of 512 packed rows of the packed weights. -/
def rowBlk {E : Type} (w : S8192x512.Idx → E) (k : ℕ) : S512x512.Idx → E :=
  fun p => w (ix2 ⟨(512 * k + (p 0).val) % 8192, Nat.mod_lt _ (by decide)⟩ (p 1))

/-- The converted copy of `x`: the byte with its top bit flipped, read as a signed number. -/
def XB (x : Vec F S768x16384 .i8) : Vec F S768x16384 .bf16 :=
  sitofp (F := F) .bf16 (xori (w := 8) x (broadcast S768x16384 128#8))

/-- The 128 lanes of row sums before trip `k` of the first loop. -/
def RS (x : Vec F S768x16384 .i8) : ℕ → Vec F S768x128 .f32
  | 0 => k0_pay2
  | k + 1 => k0_pay5 (colBlk x k) (RS x k)

/-- The accumulator before trip `k` of the second loop. -/
def ACC (w : Vec F S8192x512 .i8) (xb : Vec F S768x16384 .bf16) : ℕ → Vec F S768x512 .f32
  | 0 => k0_pay7
  | k + 1 => k0_pay10 (rowBlk w k) (ACC w xb k) (colBlk xb k)

/-- The column sums of the weights before trip `k` of the second loop. -/
def CS (w : Vec F S8192x512 .i8) : ℕ → FVec F S1x512 .f32
  | 0 => k0_pay8
  | k + 1 => k0_pay11 (CS w k) (rowBlk w k)

theorem trips1 : k0_t1_loop.trips = 16 := by decide +kernel
theorem trips2 : k0_t2_loop.trips = 16 := by decide +kernel

/-- A load of the 1024 columns that a closed-form offset names is that block of columns. -/
theorem ld_colBlk {E : EltTy → Type} {e : EltTy} (x : S768x16384.Idx → E e) (k : ℕ) (hk : k < 16) {off : Fin 2 → ℕ} (ho : off = ![0, 1024 * k])
    (inb) : View.ld (Val := E) x (Rect.unit (s := S768x16384) off S768x1024.size inb) = colBlk x k := by
  subst ho
  funext p
  refine View.ld_unit_apply_of x _ _ _ p _ fun a => ?_
  have h1 : (p 1).val < 1024 := (p 1).isLt
  match a with
  | ⟨0, _⟩ => show (p 0).val = 0 + (p 0).val; omega
  | ⟨1, _⟩ => show (1024 * k + (p 1).val) % 16384 = 1024 * k + (p 1).val; omega

/-- A load of the 512 packed rows that a closed-form offset names is that block of rows. -/
theorem ld_rowBlk {E : EltTy → Type} {e : EltTy} (w : S8192x512.Idx → E e) (k : ℕ) (hk : k < 16) {off : Fin 2 → ℕ} (ho : off = ![512 * k, 0])
    (inb) : View.ld (Val := E) w (Rect.unit (s := S8192x512) off S512x512.size inb) = rowBlk w k := by
  subst ho
  funext p
  refine View.ld_unit_apply_of w _ _ _ p _ fun a => ?_
  have h1 : (p 0).val < 512 := (p 0).isLt
  match a with
  | ⟨0, _⟩ => show (512 * k + (p 0).val) % 8192 = 512 * k + (p 0).val; omega
  | ⟨1, _⟩ => show (p 1).val = 0 + (p 1).val; omega

/-- The block that a trip of the first loop stores is the same block of the converted copy. -/
theorem pay4_colBlk (x : Vec F S768x16384 .i8) (k : ℕ) : k0_pay4 (F := F) (colBlk x k) = colBlk (XB x) k := by
  unfold k0_pay4 k0_pay3
  simp only [shapeCast_self]
  rfl

section
variable (𝒱 : Variants) (c : Dev nD) (bd : Option 𝒱.V) (i : grid0.Coords)
  (a1 : Memref sig .tc .smem S2 .i32) (h1 : a1.IsWhole) (a2 : Memref sig .tc .vmem S768x16384 .i8) (h2 : a2.IsWhole)
  (a3 : Memref sig .tc .vmem S8192x512 .i8) (h3 : a3.IsWhole) (a4 : Memref sig .tc .vmem S4x512 .i32) (h4 : a4.IsWhole)
  (a5 : Memref sig .tc .vmem S768x512 .i8) (h5 : a5.IsWhole) (a6 : Memref sig .tc .vmem S768x16384 .bf16) (h6 : a6.IsWhole)
  (a7 : Memref sig .tc .vmem S768x128 .f32) (h7 : a7.IsWhole) (a8 : Memref sig .tc .vmem S768x512 .f32) (h8 : a8.IsWhole)

/-- After `k` trips of the first loop: the first `1024 k` columns of the copy are filled and the lanes hold the sums so
    far, whatever the copy held before. -/
theorem first_loop (hc : k0_cond1 i = 1#1) (X2 : BufTy.Contents (Elt F) a2.view.ty)
    (G6 : BufTy.Contents (Elt F) a6.view.ty) (G7 : BufTy.Contents (Elt F) a7.view.ty)
    (hG : a7.view.read (Elt F) G7 = k0_pay2) (k : ℕ) (hk : k ≤ 16) :
    a7.view.read (Elt F) (a7.view.writes (Elt F) G7 (pb_k0_t1 (F := F) 𝒱 c bd i a1 h1 a2 h2 a3 h3 a4 h4 a5 h5 a6 h6 a7 h7 a8 h8 hc X2 G6 G7 k).2)
        = RS (a2.view.read (Elt F) X2) k
    ∧ ∀ p : S768x16384.Idx, (p 1).val < 1024 * k →
        a6.view.read (Elt F) (a6.view.writes (Elt F) G6 (pb_k0_t1 (F := F) 𝒱 c bd i a1 h1 a2 h2 a3 h3 a4 h4 a5 h5 a6 h6 a7 h7 a8 h8 hc X2 G6 G7 k).1) p
          = XB (a2.view.read (Elt F) X2) p := by
  induction k with
  | zero => exact ⟨hG, fun p hp => absurd hp (by omega)⟩
  | succ k ih =>
    obtain ⟨ih7, ih6⟩ := ih (by omega)
    have hkt : k < k0_t1_loop.trips := by rw [trips1]; omega
    have hs := pb_k0_t1_succ (F := F) 𝒱 c bd i a1 h1 a2 h2 a3 h3 a4 h4 a5 h5 a6 h6 a7 h7 a8 h8 hc X2 G6 G7 ⟨k, hkt⟩
    dsimp only at hs
    rw [hs]
    unfold trip_k0_t1
    dsimp only [List.cons_append, List.nil_append]
    constructor
    · refine (View.read_writes_full _ _ _ _ _).trans ?_
      rw [View.readAt_eq_ld, View.readAt_eq_ld]
      refine congrArg₂ k0_pay5 (ld_colBlk (E := Elt F) (e := .i8) _ k (by omega) (k0_off1_eq _) _) ?_
      exact (View.ld_unit_zero (S := S768x128) hz _ _).trans ih7
    · intro p hp
      have h1 : (p 1).val < 16384 := (p 1).isLt
      by_cases hlt : (p 1).val < 1024 * k
      · refine (View.read_writes_cons_unit_of_not_mem _ _ _ _ _ p (k0_off1_eq ⟨k, hkt⟩) 1 (.inl hlt)).trans (ih6 p hlt)
      · refine (View.read_writes_cons_unit_of_mem _ _ _ _ _ p (ix2 (p 0) ⟨(p 1).val - 1024 * k, by omega⟩) (k0_off1_eq ⟨k, hkt⟩) fun a => ?_).trans ?_
        · match a with
          | ⟨0, _⟩ => show (p 0).val = 0 + (p 0).val; omega
          | ⟨1, _⟩ => show (p 1).val = 1024 * k + ((p 1).val - 1024 * k); omega
        · rw [View.readAt_eq_ld]
          refine (congrFun (congrArg k0_pay4 (ld_colBlk (E := Elt F) (e := .i8) _ k (by omega) (k0_off1_eq _) _)) _).trans ?_
          rw [pay4_colBlk]
          unfold colBlk
          refine congrArg _ ((eq_ix2 p).trans ?_).symm
          refine congrArg (ix2 (p 0)) (Fin.ext ?_)
          show (p 1).val = (1024 * k + ((p 1).val - 1024 * k)) % 16384
          omega

/-- After `k` trips of the second loop: the carried column sums and the accumulator, from a zeroed accumulator. -/
theorem second_loop (X3 : BufTy.Contents (Elt F) a3.view.ty) (X6 : BufTy.Contents (Elt F) a6.view.ty)
    (G8 : BufTy.Contents (Elt F) a8.view.ty) (hG : a8.view.read (Elt F) G8 = k0_pay7) (k : ℕ) (hk : k ≤ 16) :
    (st_k0_t2 (F := F) 𝒱 c bd i a1 h1 a2 h2 a3 h3 a4 h4 a5 h5 a6 h6 a7 h7 a8 h8 X3 X6 G8 k0_pay8 k).1
        = CS (a3.view.read (Elt F) X3) k
    ∧ a8.view.read (Elt F) (a8.view.writes (Elt F) G8 (st_k0_t2 (F := F) 𝒱 c bd i a1 h1 a2 h2 a3 h3 a4 h4 a5 h5 a6 h6 a7 h7 a8 h8 X3 X6 G8 k0_pay8 k).2)
        = ACC (a3.view.read (Elt F) X3) (a6.view.read (Elt F) X6) k := by
  induction k with
  | zero => exact ⟨rfl, hG⟩
  | succ k ih =>
    obtain ⟨ih1, ih8⟩ := ih (by omega)
    have hkt : k < k0_t2_loop.trips := by rw [trips2]; omega
    have hs := st_k0_t2_succ (F := F) 𝒱 c bd i a1 h1 a2 h2 a3 h3 a4 h4 a5 h5 a6 h6 a7 h7 a8 h8 X3 X6 G8 k0_pay8 ⟨k, hkt⟩
    dsimp only at hs
    rw [hs]
    unfold tripL_k0_t2 tripR_k0_t2 trip_k0_t2
    dsimp only [List.cons_append, List.nil_append]
    constructor
    · rw [View.readAt_eq_ld, ih1]
      exact congrArg (k0_pay11 _) (ld_rowBlk (E := Elt F) (e := .i8) _ k (by omega) (k0_off2_eq _) _)
    · refine (View.read_writes_full _ _ _ _ _).trans ?_
      rw [View.readAt_eq_ld, View.readAt_eq_ld, View.readAt_eq_ld]
      have e1 := ld_rowBlk (E := Elt F) (e := .i8) (a3.view.read (Elt F) X3) k (by omega) (k0_off2_eq ⟨k, hkt⟩) (k0_off2_inb _)
      have e2 := ld_colBlk (E := Elt F) (e := .bf16) (a6.view.read (Elt F) X6) k (by omega) (k0_off3_eq ⟨k, hkt⟩) (k0_off3_inb _)
      have e3 := (View.ld_unit_zero (S := S768x512) hz inb_S768x512_S768x512_0_0 _).trans ih8
      exact (congrArg (fun z => k0_pay10 z _ _) e1).trans ((congrArg (fun z => k0_pay10 _ z _) e3).trans (congrArg (fun z => k0_pay10 _ _ z) e2))
end

end Cert.KernelIdeal.Value

end
-- ==== Proof.Run.lean ====
/-
  What the kernel's body leaves at one point of its grid: at the first point, where it also fills the converted copy
  of `x` and the row sums, and at a later one, where it finds both.
-/
module

public import proofs.«01_k».proof.Proof.Loops
public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The row sums the first point leaves: the 128 lanes of every row added up and put back in every lane. -/
def RSF (x : Vec F S768x16384 .i8) : Vec F S768x128 .f32 := k0_pay6 (RS x 16)

/-- Row `r` of the four rows of per-column parameters. -/
def colRow (cols : Vec F S4x512 .i32) (r : Fin 4) : Vec F S1x512 .i32 := fun p => cols (ix2 r (p 1))

/-- The block of results that the body stores, from the two zero points, the converted copy of `x`, its row sums, the
    block of packed weights and the block of per-column parameters. -/
def OUT (zps : Vec F S2 .i32) (xb : Vec F S768x16384 .bf16) (rs : Vec F S768x128 .f32) (w : Vec F S8192x512 .i8)
    (cols : Vec F S4x512 .i32) : Vec F S768x512 .i8 :=
  k0_pay1 (k0_pay15 (colRow cols 3)) (zps (ix1 1))
    (k0_pay16 (k0_pay13 (colRow cols 0) (ACC w xb 16) (fun p => rs (ix2 (p 0) 0)))
      (k0_pay14 (CS w 16) (zps (ix1 0)) (colRow cols 0) (colRow cols 1)) (colRow cols 2))
    (k0_pay17 (colRow cols 3))

section
variable (c : Dev nD) (i : grid0.Coords)
  (a1 : Memref sig .tc .smem S2 .i32) (h1 : a1.IsWhole) (a2 : Memref sig .tc .vmem S768x16384 .i8) (h2 : a2.IsWhole)
  (a3 : Memref sig .tc .vmem S8192x512 .i8) (h3 : a3.IsWhole) (a4 : Memref sig .tc .vmem S4x512 .i32) (h4 : a4.IsWhole)
  (a5 : Memref sig .tc .vmem S768x512 .i8) (h5 : a5.IsWhole) (a6 : Memref sig .tc .vmem S768x16384 .bf16) (h6 : a6.IsWhole)
  (a7 : Memref sig .tc .vmem S768x128 .f32) (h7 : a7.IsWhole) (a8 : Memref sig .tc .vmem S768x512 .f32) (h8 : a8.IsWhole)
  (x0 : Vec F S2 .i32) (x1 : Vec F S768x16384 .i8) (x2 : Vec F S8192x512 .i8) (x3 : Vec F S4x512 .i32)

theorem readAt_row (X : BufTy.Contents (Elt F) a4.view.ty) (r : Fin 4) {off : Fin 2 → ℕ} (ho : off = ![r.val, 0]) (inb) :
    View.readAt (Elt F) a4.view (Rect.unit (s := S4x512) off S1x512.size inb).toLoadRect X = colRow (a4.view.read (Elt F) X) r := by
  subst ho
  rw [View.readAt_eq_ld]
  funext p
  refine View.ld_unit_apply_of (a4.view.read (Elt F) X) _ _ _ p (ix2 r (p 1)) fun a => ?_
  have hp : (p 0).val < 1 := (p 0).isLt
  match a with
  | ⟨0, _⟩ => show r.val = r.val + (p 0).val; omega
  | ⟨1, _⟩ => show (p 1).val = 0 + (p 1).val; omega

theorem readAt_zp (X : BufTy.Contents (Elt F) a1.view.ty) (r : Fin 2) {off : Fin 1 → ℕ} (ho : off = ![r.val]) (inb) (p : S1.Idx) :
    View.readAt (Elt F) a1.view (Rect.unit (s := S2) off S1.size inb).toLoadRect X p = a1.view.read (Elt F) X (ix1 r) := by
  subst ho
  rw [View.readAt_eq_ld]
  refine View.ld_unit_apply_of (a1.view.read (Elt F) X) _ _ _ p (ix1 r) fun a => ?_
  have hp : (p 0).val < 1 := (p 0).isLt
  match a with
  | ⟨0, _⟩ => show r.val = r.val + (p 0).val; omega

theorem readAt_lane (X : BufTy.Contents (Elt F) a7.view.ty) (inb) :
    View.readAt (Elt F) a7.view (Rect.unit (s := S768x128) ![0, 0] S768x1.size inb).toLoadRect X = fun p => a7.view.read (Elt F) X (ix2 (p 0) 0) := by
  rw [View.readAt_eq_ld]
  funext p
  refine View.ld_unit_apply_of (a7.view.read (Elt F) X) _ _ _ p (ix2 (p 0) 0) fun a => ?_
  have hp : (p 1).val < 1 := (p 1).isLt
  match a with
  | ⟨0, _⟩ => show (p 0).val = 0 + (p 0).val; omega
  | ⟨1, _⟩ => show (0 : ℕ) = 0 + (p 1).val; omega

theorem readCov_all {sp : Space} {s : Shape} {e : EltTy} (a : Memref sig .tc sp s e) (L L' : List (View.Piece (Elt F) s e)) {off : Fin s.rank → ℕ}
    (ho : off = fun _ => 0) (inb) (y : Vec F s e)
    (h : a.view.read (Elt F) (a.view.writes (Elt F) (a.view.writes (Elt F) a.view.junk L') L) = y) :
    a.view.readCov (L ++ L') (Rect.unit (s := s) off s.size inb).toLoadRect = y := by
  unfold View.readCov
  rw [View.writes_append, View.readAt_eq_ld, h]
  exact View.ld_unit_zero (S := s) ho _ _

/-- What the body stores, with its loads read off the buffers. -/
theorem out_eq (X1 : BufTy.Contents (Elt F) a1.view.ty) (X4 : BufTy.Contents (Elt F) a4.view.ty)
    (p1 p2 : S1.Idx) (v9 : FVec F S1x512 .f32) (v26 : Vec F S768x512 .f32) (v28 : Vec F S768x1 .f32) (w : Vec F S8192x512 .i8) (xb : Vec F S768x16384 .bf16)
    (rs : Vec F S768x128 .f32) (h9 : v9 = CS w 16) (h26 : v26 = ACC w xb 16) (h28 : v28 = fun p => rs (ix2 (p 0) 0)) :
    k0_pay1 (k0_pay15 (View.readAt (Elt F) a4.view (Rect.unit (s := S4x512) ![3, 0] S1x512.size inb_S4x512_S1x512_3_0).toLoadRect X4))
      (View.readAt (Elt F) a1.view (Rect.unit (s := S2) ![1] S1.size inb_S2_S1_1).toLoadRect X1 p1)
      (k0_pay16
        (k0_pay13 (View.readAt (Elt F) a4.view (Rect.unit (s := S4x512) ![0, 0] S1x512.size inb_S4x512_S1x512_0_0).toLoadRect X4) v26 v28)
        (k0_pay14 v9
          (View.readAt (Elt F) a1.view (Rect.unit (s := S2) ![0] S1.size inb_S2_S1_0).toLoadRect X1 p2)
          (View.readAt (Elt F) a4.view (Rect.unit (s := S4x512) ![0, 0] S1x512.size inb_S4x512_S1x512_0_0).toLoadRect X4)
          (View.readAt (Elt F) a4.view (Rect.unit (s := S4x512) ![1, 0] S1x512.size inb_S4x512_S1x512_1_0).toLoadRect X4))
        (View.readAt (Elt F) a4.view (Rect.unit (s := S4x512) ![2, 0] S1x512.size inb_S4x512_S1x512_2_0).toLoadRect X4))
      (k0_pay17 (View.readAt (Elt F) a4.view (Rect.unit (s := S4x512) ![3, 0] S1x512.size inb_S4x512_S1x512_3_0).toLoadRect X4))
      = OUT (a1.view.read (Elt F) X1) xb rs w (a4.view.read (Elt F) X4) := by
  have r0 := readAt_row a4 X4 0 (off := ![0, 0]) rfl inb_S4x512_S1x512_0_0
  have r1 := readAt_row a4 X4 1 (off := ![1, 0]) rfl inb_S4x512_S1x512_1_0
  have r2 := readAt_row a4 X4 2 (off := ![2, 0]) rfl inb_S4x512_S1x512_2_0
  have r3 := readAt_row a4 X4 3 (off := ![3, 0]) rfl inb_S4x512_S1x512_3_0
  have z0 := readAt_zp a1 X1 0 (off := ![0]) rfl inb_S2_S1_0 p2
  have z1 := readAt_zp a1 X1 1 (off := ![1]) rfl inb_S2_S1_1 p1
  unfold OUT
  rw [r0, r1, r2, r3, z0, z1, h9, h26, h28]

set_option maxHeartbeats 6400000 in
/-- A later point: the body finds the converted copy and the row sums, leaves them, and stores the block of results. -/
theorem run_later (hc : ¬ k0_cond1 i = 1#1) (xb : Vec F S768x16384 .bf16) (rs : Vec F S768x128 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d) ∗ owns (c : Thread nD τ) a6 fullShare xb ∗ owns (c : Thread nD τ) a7 fullShare rs ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (OUT x0 xb rs x2 x3) ∗ owns (c : Thread nD τ) a6 fullShare xb ∗ owns (c : Thread nD τ) a7 fullShare rs ∗ (∃ d, owns (c : Thread nD τ) a8 fullShare d)) -∗ K ⟨⟩))
      ⊢ wp frame (wpE (defs₀ (F := F)) Variants.none c none) E (cc0__body i a1 h1 a2 h2 a3 h3 a4 h4 a5 h5 a6 h6 a7 h7 a8 h8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%ds2, %fs2, -, HS2⟩, Hk⟩
  sl_exec (disch := first | sl_exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr; swap; · iexact H4
    ipureintro
    refine (View.read_writes_full _ _ _ _ _).trans ?_
    delta run_later.sl.r_3 run_later.sl.r_4 run_later.sl.r_5 run_later.sl.r_6
    delta run_later.sl.r_1 run_later.sl.r_2 run_later.sl.r run_later.sl.v26
    subst hf0 hf2 hf3 hs0 hs1
    have hT : Scf.trips k0_t2_loop.lb k0_t2_loop.ub k0_t2_loop.st = 16 := trips2
    rw [hT]
    have hL := second_loop (F := F) Variants.none c none i a1 h1 a2 h2 a3 h3 a4 h4 a5 h5 a6 h6 a7 h7 a8 h8 f2 fs0
      (a8.view.writes (Elt F) a8.view.junk run_later.sl.HS2_1) (View.read_writes_full _ _ _ _ _) 16 le_rfl
    refine out_eq a1 a4 f0 f3 _ _ _ _ _ _ _ _ hL.1 ?_ ?_
    · exact readCov_all a8 _ _ hz _ _ hL.2
    · exact readAt_lane a7 _ _
  isplitl [HS0]; · iexists _; isplitr; · ipureintro; exact hs0
                   iexact HS0
  isplitl [HS1]; · iexists _; isplitr; · ipureintro; exact hs1
                   iexact HS1
  iexists _, _; isplitr; swap; · iexact HS2
  ipureintro; rfl

/-- The whole first loop fills the converted copy. -/
theorem first_copy (hc : k0_cond1 i = 1#1) (X2 : BufTy.Contents (Elt F) a2.view.ty)
    (G6 : BufTy.Contents (Elt F) a6.view.ty) (G7 : BufTy.Contents (Elt F) a7.view.ty) (hG : a7.view.read (Elt F) G7 = k0_pay2) :
    a6.view.read (Elt F) (a6.view.writes (Elt F) G6
        (pb_k0_t1 (F := F) Variants.none c none i a1 h1 a2 h2 a3 h3 a4 h4 a5 h5 a6 h6 a7 h7 a8 h8 hc X2 G6 G7 (Scf.trips k0_t1_loop.lb k0_t1_loop.ub k0_t1_loop.st)).1)
      = XB (a2.view.read (Elt F) X2) := by
  have hT : Scf.trips k0_t1_loop.lb k0_t1_loop.ub k0_t1_loop.st = 16 := trips1
  rw [hT]
  funext p
  exact (first_loop (F := F) Variants.none c none i a1 h1 a2 h2 a3 h3 a4 h4 a5 h5 a6 h6 a7 h7 a8 h8 hc X2 G6 G7 hG 16 le_rfl).2 p (p 1).isLt

/-- The whole first loop leaves the 128 lanes of row sums. -/
theorem first_sums (hc : k0_cond1 i = 1#1) (X2 : BufTy.Contents (Elt F) a2.view.ty)
    (G6 : BufTy.Contents (Elt F) a6.view.ty) (G7 : BufTy.Contents (Elt F) a7.view.ty) (hG : a7.view.read (Elt F) G7 = k0_pay2) :
    a7.view.read (Elt F) (a7.view.writes (Elt F) G7
        (pb_k0_t1 (F := F) Variants.none c none i a1 h1 a2 h2 a3 h3 a4 h4 a5 h5 a6 h6 a7 h7 a8 h8 hc X2 G6 G7 (Scf.trips k0_t1_loop.lb k0_t1_loop.ub k0_t1_loop.st)).2)
      = RS (a2.view.read (Elt F) X2) 16 := by
  have hT : Scf.trips k0_t1_loop.lb k0_t1_loop.ub k0_t1_loop.st = 16 := trips1
  rw [hT]
  exact (first_loop (F := F) Variants.none c none i a1 h1 a2 h2 a3 h3 a4 h4 a5 h5 a6 h6 a7 h7 a8 h8 hc X2 G6 G7 hG 16 le_rfl).1

set_option maxHeartbeats 6400000 in
/-- The first point: whatever the scratch buffers hold, the body fills the converted copy and the row sums, and stores
    the block of results. -/
theorem run_first (hc : k0_cond1 i = 1#1) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (OUT x0 (XB x1) (RSF x1) x2 x3) ∗ owns (c : Thread nD τ) a6 fullShare (XB x1) ∗ owns (c : Thread nD τ) a7 fullShare (RSF x1) ∗ (∃ d, owns (c : Thread nD τ) a8 fullShare d)) -∗ K ⟨⟩))
      ⊢ wp frame (wpE (defs₀ (F := F)) Variants.none c none) E (cc0__body i a1 h1 a2 h2 a3 h3 a4 h4 a5 h5 a6 h6 a7 h7 a8 h8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  subst hf0 hf1 hf2 hf3
  sl_exec (disch := first | sl_exact hc)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr; swap; · iexact H4
    ipureintro
    refine (View.read_writes_full _ _ _ _ _).trans ?_
    delta run_first.sl.r_3 run_first.sl.r_4 run_first.sl.r_5 run_first.sl.r_6
    delta run_first.sl.r_1 run_first.sl.r_2 run_first.sl.r run_first.sl.v26
    have hT : Scf.trips k0_t2_loop.lb k0_t2_loop.ub k0_t2_loop.st = 16 := trips2
    rw [hT]
    have hC := first_copy c i a1 h1 a2 h2 a3 h3 a4 h4 a5 h5 a6 h6 a7 h7 a8 h8 hc f1 fs0 (a7.view.writes (Elt F) a7.view.junk run_first.sl.HS1_1) (View.read_writes_full _ _ _ _ _)
    have hL := second_loop (F := F) Variants.none c none i a1 h1 a2 h2 a3 h3 a4 h4 a5 h5 a6 h6 a7 h7 a8 h8 f2 (a6.view.writes (Elt F) fs0 (pb_k0_t1 (F := F) Variants.none c none i a1 h1 a2 h2 a3 h3 a4 h4 a5 h5 a6 h6 a7 h7 a8 h8 hc f1 fs0 (a7.view.writes (Elt F) a7.view.junk run_first.sl.HS1_1) (Scf.trips k0_t1_loop.lb k0_t1_loop.ub k0_t1_loop.st)).1)
      (a8.view.writes (Elt F) a8.view.junk run_first.sl.HS2_1) (View.read_writes_full _ _ _ _ _) 16 le_rfl
    rw [hC] at hL
    refine out_eq a1 a4 f0 f3 _ _ _ _ _ _ _ _ hL.1 ?_ ?_
    · exact readCov_all a8 _ _ hz _ _ hL.2
    · delta run_first.sl.v28
      refine (readAt_lane a7 _ _).trans ?_
      funext p
      refine congrFun ((View.read_writes_full _ _ _ _ _).trans (congrArg k0_pay6 ?_)) (ix2 (p 0) 0)
      delta run_first.sl.v114
      refine readCov_all a7 _ _ hz _ _ ?_
      exact first_sums c i a1 h1 a2 h2 a3 h3 a4 h4 a5 h5 a6 h6 a7 h7 a8 h8 hc f1 fs0 _ (View.read_writes_full _ _ _ _ _)
  isplitl [HS0]; · iexists _; isplitr; swap; · iexact HS0
                   ipureintro
                   exact first_copy c i a1 h1 a2 h2 a3 h3 a4 h4 a5 h5 a6 h6 a7 h7 a8 h8 hc f1 fs0 _ (View.read_writes_full _ _ _ _ _)
  isplitl [HS1]; · iexists _; isplitr; swap; · iexact HS1
                   ipureintro
                   refine (View.read_writes_full _ _ _ _ _).trans (congrArg k0_pay6 ?_)
                   delta run_first.sl.v114
                   refine readCov_all a7 _ _ hz _ _ ?_
                   exact first_sums c i a1 h1 a2 h2 a3 h3 a4 h4 a5 h5 a6 h6 a7 h7 a8 h8 hc f1 fs0 _ (View.read_writes_full _ _ _ _ _)
  iexists _, _; isplitr; swap; · iexact HS2
  ipureintro; rfl
end

end Cert.KernelIdeal.Value

end
-- ==== Proof.Body.lean ====
/-
  The kernel's run: what every buffer of its pipeline holds at every point of its grid, the obligation of the body at a
  point, and from them the whole run of the program and its frame.
-/
module

public import proofs.«01_k».proof.Proof.Run
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch that fills the scratch is taken at the first point only. -/
theorem cond_iff : ∀ t : Fin grid0.N, k0_cond1 (grid0.coords t) = 1#1 ↔ t.val = 0 := by decide +kernel

/-- The three scratch buffers. -/
abbrev sc0 : Memref sig .tc .vmem S768x16384 .bf16 := Memref.whole cc0_scratch0
abbrev sc1 : Memref sig .tc .vmem S768x128 .f32 := Memref.whole cc0_scratch1
abbrev sc2 : Memref sig .tc .vmem S768x512 .f32 := Memref.whole cc0_scratch2

/-- The whole of `x`, as the pipeline stages it. -/
abbrev XW (c : Dev nD) : Vec F S768x16384 .i8 := iblk m c 1 t0_0

/-- What the body stores at point `t`. -/
def outAt (c : Dev nD) (t : Fin cfg0.N) : Vec F S768x512 .i8 :=
  OUT (iblk m c 0 t) (XB (XW m c)) (RSF (XW m c)) (iblk m c 2 t) (iblk m c 3 t)

/-- Between points: before the first the scratch buffers hold anything; afterwards the converted copy of `x` and its row
    sums, and anything in the accumulator. -/
def Phi (c : Dev nD) : ℕ → sProp 𝕄
  | 0 => Pipeline.ΦA spec0 c
  | _ + 1 => iprop(iprop(owns (c : Thread nD τ) sc0 fullShare (XB (XW m c)) ∗ owns (c : Thread nD τ) sc1 fullShare (RSF (XW m c)) ∗ (∃ d, owns (c : Thread nD τ) sc2 fullShare d)) ∗ (∃ r, prngReg c r))

theorem Phi_pos (c : Dev nD) (n : ℕ) (h : n ≠ 0) :
    Phi m c n = iprop(iprop(owns (c : Thread nD τ) sc0 fullShare (XB (XW m c)) ∗ owns (c : Thread nD τ) sc1 fullShare (RSF (XW m c)) ∗ (∃ d, owns (c : Thread nD τ) sc2 fullShare d)) ∗ (∃ r, prngReg c r)) := by
  cases n with
  | zero => exact absurd rfl h
  | succ n => rfl

/-- Before the first point, buffer by buffer. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA
  simp only [scopedRest0_eq, owns_whole]
  rfl

/-- The proof data of the pipeline: every input's buffer holds its block, the output's what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; rfl
theorem Phi_succ (c : Dev nD) (t : Fin cfg0.N) : (dats m 0 c).Φ t.succ = Phi m c (t.val + 1) := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The staging buffers at point `t`. -/
abbrev ms0 (t : Fin cfg0.N) : Memref sig .tc .smem S2 .i32 := win0_0.stage (cfg0.slots t 0)
abbrev ms1 (t : Fin cfg0.N) : Memref sig .tc .vmem S768x16384 .i8 := win0_1.stage (cfg0.slots t 1)
abbrev ms2 (t : Fin cfg0.N) : Memref sig .tc .vmem S8192x512 .i8 := win0_2.stage (cfg0.slots t 2)
abbrev ms3 (t : Fin cfg0.N) : Memref sig .tc .vmem S4x512 .i32 := win0_3.stage (cfg0.slots t 3)
abbrev ms4 (t : Fin cfg0.N) : Memref sig .tc .vmem S768x512 .i8 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, Phi_succ, Phi_castSucc, Phi_pos m c (t.val + 1) (Nat.succ_ne_zero _)]
  unfold outAt
  by_cases h0 : t.val = 0
  · obtain rfl : t = t0_0 := Fin.ext h0
    rw [h0, show Phi m c 0 = Pipeline.ΦA spec0 c from rfl, PhiA_eq]
    iintro ⟨⟨⟨HS0, HS1, HS2⟩, Hg⟩, Ho, ⟨%d0, H0⟩, ⟨%d1, H1⟩, ⟨%d2, H2⟩, ⟨%d3, H3⟩, ⟨%d4, H4⟩⟩
    iapply (run_first c (grid0.coords t0_0) _ _ _ _ _ _ _ _ _ _ _ _ _ _ _ _ (iblk m c 0 t0_0) (iblk m c 1 t0_0) (iblk m c 2 t0_0) (iblk m c 3 t0_0) ((cond_iff t0_0).mpr h0) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4
  · rw [Phi_pos m c t.val h0]
    iintro ⟨⟨⟨HS0, HS1, HS2⟩, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ _ _ _ _ (iblk m c 0 t) (iblk m c 1 t) (iblk m c 2 t) (iblk m c 3 t) (fun h => h0 ((cond_iff t).mp h)) _ _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over what holds before the first point. -/
theorem hin (c : Dev nD) : Pipeline.ΦA spec0 c ⊢ (dats m 0 c).Φ 0 := by
  rw [show (dats m 0 c).Φ 0 = Pipeline.ΦA spec0 c from rfl]

/-- After the last point the scratch buffers are handed back. -/
theorem hout (c : Dev nD) : (dats m 0 c).Φ (Fin.last cfg0.N) ⊢ Pipeline.ΦA spec0 c := by
  rw [show (dats m 0 c).Φ (Fin.last cfg0.N) = Phi m c cfg0.N from rfl, Phi_pos m c _ (by rw [show cfg0.N = 7 from N_0]; decide), PhiA_eq]
  iintro ⟨⟨HS0, HS1, HS2⟩, Hg⟩
  isplitl [HS0 HS1 HS2]
  · isplitl [HS0]; · iexists _; iexact HS0
    isplitl [HS1]; · iexists _; iexact HS1
    iexact HS2
  iexact Hg

set_option backward.isDefEq.respectTransparency.types false in
set_option maxHeartbeats 800000 in
/-- The run of the whole program: it ends with the pipeline's arrays at what the proof data says, every other buffer at
    what the host operations make of them, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the program terminates without a fault, its arguments end unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Value

end
-- ==== Proof.RefFrame.lean ====
/-
  The reference runs to its end without a fault, leaves its arguments as they were and has no semaphore to leave raised.
-/
module

public import proofs.«01_k».proof.Proof.Gen.ReferenceIdeal
public import proofs.«01_k».proof.Proof.Gen.ReferenceIdeal.Run
public import Idealize.ShloMosaic.Lib.Claim
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The reference's frame: it terminates without a fault, its arguments end unchanged, its counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems (by decide) r.2⟩) (run m ρ)

end Cert.ReferenceIdeal.Value

end
-- ==== Proof.Words.lean ====
/-
  Facts about single 32-bit words: the fixed-point product and the rounding shift, as the kernel computes them and as the
  reference does, with the proof that the two agree.
-/
module

public import Idealize.ShloMosaic.PureOps.Float
public import Mathlib.Tactic.Ring
public import Mathlib.Tactic.NormNum
public import Mathlib.Tactic.Linarith
public import Mathlib.Tactic.Zify

@[expose] public section

namespace Cert.Words

open Idealize.ShloMosaic

/-- A word is the word of the number it reads as, signed. -/
theorem eq_ofInt (x : BitVec 32) : x = BitVec.ofInt 32 x.toInt := BitVec.ofInt_toInt.symm

/-- A word is the word of the number it reads as, unsigned. -/
theorem eq_ofNat (x : BitVec 32) : x = BitVec.ofInt 32 (x.toNat : ℤ) := by simp

/-- Right shift of a word by a literal amount, filling with the sign: floor division of the signed number. -/
theorem toInt_shrsi (u : ArithUnit) (x : BitVec 32) (n : Nat) (hn : n < 32) :
    (IntOp.shrsi u x (BitVec.ofNat 32 n)).toInt = x.toInt / 2 ^ n := by
  have h : (BitVec.ofNat 32 n).toNat = n := by simp; omega
  unfold IntOp.shrsi
  rw [if_pos (by omega), BitVec.sshiftRight', h, BitVec.toInt_sshiftRight, Int.shiftRight_eq_div_pow]
  simp

/-- Right shift of a word by a literal amount, filling with zeros: division of the unsigned number. -/
theorem toNat_shrui (u : ArithUnit) (x : BitVec 32) (n : Nat) (hn : n < 32) :
    (IntOp.shrui u x (BitVec.ofNat 32 n)).toNat = x.toNat / 2 ^ n := by
  have h : (BitVec.ofNat 32 n).toNat = n := by simp; omega
  unfold IntOp.shrui
  rw [if_pos (by omega), BitVec.ushiftRight_eq', h, BitVec.toNat_ushiftRight, Nat.shiftRight_eq_div_pow]

/-- Left shift of a word by a literal amount: the unsigned number multiplied, modulo the word. -/
theorem toNat_shli (u : ArithUnit) (x : BitVec 32) (n : Nat) (hn : n < 32) :
    (IntOp.shli u x (BitVec.ofNat 32 n)).toNat = x.toNat * 2 ^ n % 2 ^ 32 := by
  have h : (BitVec.ofNat 32 n).toNat = n := by simp; omega
  unfold IntOp.shli
  rw [if_pos (by omega), BitVec.shiftLeft_eq', h, BitVec.toNat_shiftLeft, Nat.shiftLeft_eq]

/-- Masking the low half word. -/
theorem toNat_lo16 (x : BitVec 32) : (IntOp.andi x 65535#32).toNat = x.toNat % 65536 := by
  unfold IntOp.andi
  rw [BitVec.toNat_and]
  exact Nat.and_two_pow_sub_one_eq_mod x.toNat 16

/-- Masking the low fifteen bits. -/
theorem toNat_lo15 (x : BitVec 32) : (IntOp.andi x 32767#32).toNat = x.toNat % 32768 := by
  unfold IntOp.andi
  rw [BitVec.toNat_and]
  exact Nat.and_two_pow_sub_one_eq_mod x.toNat 15

theorem toInt_split (x : BitVec 32) : x.toInt = (x.toNat : ℤ) ∨ x.toInt = (x.toNat : ℤ) - 4294967296 := by
  rw [BitVec.toInt_eq_toNat_cond]
  split
  · left; rfl
  · right; norm_num

/-! ## The fixed-point product: the rounded high half of twice the product -/

/-- The kernel's product of an accumulator and a multiplier, by half words, rounded at bit 30 and shifted by 31. -/
def kScale (a m : BitVec 32) : BitVec 32 :=
  let mh := IntOp.shrsi .vector m 16#32
  let ml := IntOp.andi m 65535#32
  let ah := IntOp.shrsi .vector a 16#32
  let al := IntOp.andi a 65535#32
  let low := IntOp.addi (IntOp.addi (IntOp.shrui .vector (IntOp.muli al ml) 16#32) (IntOp.muli al mh)) 16384#32
  let mid := IntOp.muli ah ml
  IntOp.addi (IntOp.addi (IntOp.muli ah (IntOp.muli mh 2#32)) (IntOp.shrsi .vector mid 15#32))
    (IntOp.shrui .vector (IntOp.addi low (IntOp.andi mid 32767#32)) 15#32)

/-- The number both products compute: the accumulator times the multiplier, plus half of 2³¹, divided by 2³¹ rounding down. -/
def scaled (a m : BitVec 32) : ℤ := (a.toInt * m.toInt + 1073741824) / 2147483648

/-- The kernel's product is that number, for every accumulator and every multiplier that is not negative. -/
theorem kScale_eq (a m : BitVec 32) (hm : 0 ≤ m.toInt) : kScale a m = BitVec.ofInt 32 (scaled a m) := by
  have ham := BitVec.toInt_lt (x := a); have ham' := BitVec.le_toInt a
  have hmm := BitVec.toInt_lt (x := m)
  have hmh := toInt_shrsi .vector m 16 (by decide)
  have hml := toNat_lo16 m
  have hah := toInt_shrsi .vector a 16 (by decide)
  have hal := toNat_lo16 a
  have sa := toInt_split a; have sm := toInt_split m
  have ba := a.isLt; have bm := m.isLt
  unfold kScale
  norm_num at hmh hml hah hal ham ham' hmm
  change (IntOp.shrsi .vector m 16#32).toInt = _ at hmh
  change (IntOp.shrsi .vector a 16#32).toInt = _ at hah
  generalize IntOp.shrsi .vector m 16#32 = mh at *
  generalize IntOp.andi m 65535#32 = ml at *
  generalize IntOp.shrsi .vector a 16#32 = ah at *
  generalize IntOp.andi a 65535#32 = al at *
  -- the half words as numbers
  have smh := toInt_split mh
  have bmh := mh.isLt; have bml := ml.isLt; have bal := al.isLt
  have ea : a.toInt = 65536 * ah.toInt + (al.toNat : ℤ) := by omega
  have em : m.toInt = 65536 * mh.toInt + (ml.toNat : ℤ) := by omega
  have hmhn : (mh.toNat : ℤ) = mh.toInt := by omega
  have b1 : (al.toNat : ℤ) ≤ 65535 := by omega
  have b2 : (ml.toNat : ℤ) ≤ 65535 := by omega
  have b3 : mh.toInt ≤ 32767 := by omega
  have b4 : 0 ≤ mh.toInt := by omega
  have b5 : ah.toInt ≤ 32767 := by omega
  have b6 : -32768 ≤ ah.toInt := by omega
  have b7 : (0:ℤ) ≤ al.toNat := by omega
  have b8 : (0:ℤ) ≤ ml.toNat := by omega
  have p1 : (al.toNat : ℤ) * ml.toNat ≤ 65535 * 65535 := by nlinarith
  have p1' : (0:ℤ) ≤ (al.toNat : ℤ) * ml.toNat := by positivity
  have p2 : (al.toNat : ℤ) * mh.toInt ≤ 65535 * 32767 := by nlinarith
  have p2' : (0:ℤ) ≤ (al.toNat : ℤ) * mh.toInt := by positivity
  have p3 : ah.toInt * ml.toNat ≤ 32767 * 65535 := by nlinarith
  have p3' : -(32768 * 65535) ≤ ah.toInt * ml.toNat := by nlinarith
  -- the low product
  have q1 : (IntOp.muli al ml).toNat = al.toNat * ml.toNat := by
    unfold IntOp.muli; rw [BitVec.toNat_mul]; exact Nat.mod_eq_of_lt (by zify; omega)
  have q2 : (IntOp.muli al mh).toNat = al.toNat * mh.toNat := by
    unfold IntOp.muli; rw [BitVec.toNat_mul]; exact Nat.mod_eq_of_lt (by zify; rw [hmhn]; omega)
  have q3 : (IntOp.muli ah ml).toInt = ah.toInt * ml.toNat := by
    have e : IntOp.muli ah ml = BitVec.ofInt 32 (ah.toInt * ml.toNat) := by
      unfold IntOp.muli; rw [BitVec.ofInt_mul, ← eq_ofInt, ← eq_ofNat]
    rw [e, BitVec.toInt_ofInt]
    exact Int.bmod_eq_of_le (by norm_num; omega) (by norm_num; omega)
  have q4 := toNat_shrui .vector (IntOp.muli al ml) 16 (by decide)
  have q5 := toInt_shrsi .vector (IntOp.muli ah ml) 15 (by decide)
  have q6 := toNat_lo15 (IntOp.muli ah ml)
  have smid := toInt_split (IntOp.muli ah ml)
  rw [q1] at q4
  rw [q3] at q5 smid
  norm_num at q4 q5
  change (IntOp.shrui .vector (IntOp.muli al ml) 16#32).toNat = _ at q4
  change (IntOp.shrsi .vector (IntOp.muli ah ml) 15#32).toInt = _ at q5
  have q7 : (IntOp.addi (IntOp.addi (IntOp.addi (IntOp.shrui .vector (IntOp.muli al ml) 16#32) (IntOp.muli al mh)) 16384#32)
      (IntOp.andi (IntOp.muli ah ml) 32767#32)).toNat
      = al.toNat * ml.toNat / 65536 + al.toNat * mh.toNat + 16384 + (IntOp.muli ah ml).toNat % 32768 := by
    unfold IntOp.addi
    rw [BitVec.toNat_add, BitVec.toNat_add, BitVec.toNat_add, q4, q2, q6]
    have e2 : ((al.toNat * mh.toNat : ℕ) : ℤ) = (al.toNat : ℤ) * mh.toInt := by push_cast; rw [hmhn]
    have e1 : ((al.toNat * ml.toNat : ℕ) : ℤ) = (al.toNat : ℤ) * ml.toNat := by push_cast; rfl
    have : (16384#32).toNat = 16384 := rfl
    rw [this]
    generalize al.toNat * mh.toNat = X at *
    generalize al.toNat * ml.toNat = Y at *
    omega
  have q8 := toNat_shrui .vector (IntOp.addi (IntOp.addi (IntOp.addi (IntOp.shrui .vector (IntOp.muli al ml) 16#32) (IntOp.muli al mh)) 16384#32)
      (IntOp.andi (IntOp.muli ah ml) 32767#32)) 15 (by decide)
  rw [q7] at q8
  have q9 : IntOp.muli ah (IntOp.muli mh 2#32) = BitVec.ofInt 32 (ah.toInt * (mh.toInt * 2)) := by
    unfold IntOp.muli
    rw [BitVec.ofInt_mul, BitVec.ofInt_mul, ← eq_ofInt, ← eq_ofInt]; rfl
  norm_num at q8
  change (IntOp.shrui .vector _ 15#32).toNat = _ at q8
  have key : scaled a m = ah.toInt * (mh.toInt * 2) + ah.toInt * ml.toNat / 32768
      + ((al.toNat * ml.toNat / 65536 + al.toNat * mh.toNat + 16384 + (IntOp.muli ah ml).toNat % 32768) / 32768 : ℕ) := by
    unfold scaled
    have e : a.toInt * m.toInt = 4294967296 * (ah.toInt * mh.toInt) + 65536 * (ah.toInt * ml.toNat) + 65536 * (al.toNat * mh.toInt)
        + al.toNat * ml.toNat := by rw [ea, em]; ring
    have e2 : ((al.toNat * mh.toNat : ℕ) : ℤ) = (al.toNat : ℤ) * mh.toInt := by push_cast; rw [hmhn]
    have e1 : ((al.toNat * ml.toNat : ℕ) : ℤ) = (al.toNat : ℤ) * ml.toNat := by push_cast; rfl
    have e3 : ah.toInt * (mh.toInt * 2) = 2 * (ah.toInt * mh.toInt) := by ring
    rw [e, e3]
    generalize al.toNat * mh.toNat = X at *
    generalize al.toNat * ml.toNat = Y at *
    rw [← e1, ← e2]
    generalize ah.toInt * mh.toInt = Z at *
    generalize ah.toInt * (ml.toNat : ℤ) = T at *
    omega
  rw [key, BitVec.ofInt_add, BitVec.ofInt_add, ← q9, ← q5, ← q8, ← eq_ofInt, ← eq_ofNat]
  rfl

/-! ## The reference's product -/

/-- Joining a word whose low bits are clear with a word that has only those bits. -/
theorem toNat_ori (x y : BitVec 32) (n k : Nat) (hx : x.toNat = k * 2 ^ n) (hy : y.toNat < 2 ^ n) :
    (IntOp.ori x y).toNat = x.toNat + y.toNat := by
  unfold IntOp.ori
  rw [BitVec.toNat_or, hx, ← Nat.shiftLeft_eq, Nat.shiftLeft_add_eq_or_of_lt hy]

/-- The absolute value of a word, read unsigned. -/
theorem toNat_absi (x : BitVec 32) : ((IntOp.absi x).toNat : ℤ) = |x.toInt| := by
  unfold IntOp.absi
  have hx := x.isLt
  have h := BitVec.toInt_eq_toNat_cond x
  have hm := BitVec.msb_eq_decide x
  have hn := BitVec.toNat_neg x
  by_cases hb : 2 ^ 31 ≤ x.toNat
  · rw [hm, if_pos (by simpa using hb), hn, abs_of_neg (by omega)]
    omega
  · rw [hm, if_neg (by simpa using hb), abs_of_nonneg (by omega)]
    omega

/-- A comparison `≥ 0` is one exactly when the word is not negative. -/
theorem sge_zero (x : BitVec 32) : IntOp.cmpi .sge x 0#32 = 1 ↔ 0 ≤ x.toInt := by
  unfold IntOp.cmpi
  simp [BitVec.sle_eq_decide]
  by_cases h : 0 ≤ x.toInt <;> simp [h]

/-- An unsigned comparison, widened to a word. -/
theorem toNat_ult (x y : BitVec 32) : ((IntOp.cmpi .ult x y).setWidth 32).toNat = if x.toNat < y.toNat then 1 else 0 := by
  unfold IntOp.cmpi
  by_cases h : x.toNat < y.toNat <;> simp [BitVec.ult, h]

/-- The reference's product: the absolute value times the multiplier in half words, a rounding constant by the sign added
    with its carry, the result shifted by 31 and given its sign back. -/
def rScale (a m : BitVec 32) : BitVec 32 :=
  let pos := IntOp.cmpi .sge a 0#32
  let u := IntOp.absi a
  let a1 := IntOp.shrui .host u 16#32
  let a0 := IntOp.andi u 65535#32
  let b1 := IntOp.shrui .host m 16#32
  let b0 := IntOp.andi m 65535#32
  let lo := IntOp.muli a0 b0
  let mid := IntOp.addi (IntOp.muli a1 b0) (IntOp.muli a0 b1)
  let t := IntOp.addi (IntOp.shrui .host lo 16#32) (IntOp.andi mid 65535#32)
  let low32 := IntOp.ori (IntOp.shli .host (IntOp.andi t 65535#32) 16#32) (IntOp.andi lo 65535#32)
  let low2 := IntOp.addi low32 (Scalar.select pos 1073741824#32 1073741823#32)
  let high2 := IntOp.addi (IntOp.addi (IntOp.addi (IntOp.muli a1 b1) (IntOp.shrui .host mid 16#32)) (IntOp.shrui .host t 16#32))
    ((IntOp.cmpi .ult low2 low32).setWidth 32)
  let r := IntOp.ori (IntOp.shli .host high2 1#32) (IntOp.shrui .host low2 31#32)
  Scalar.select pos r (-r)

/-- The unsigned part of the reference's product: the two halves of `u * m + c`, shifted right by 31. -/
theorem high_word (u m c : BitVec 32) (hu : u.toNat ≤ 2147483648) (hm : m.toNat < 2147483648) (hc : c.toNat ≤ 1073741824) :
    let a1 := IntOp.shrui .host u 16#32
    let a0 := IntOp.andi u 65535#32
    let b1 := IntOp.shrui .host m 16#32
    let b0 := IntOp.andi m 65535#32
    let lo := IntOp.muli a0 b0
    let mid := IntOp.addi (IntOp.muli a1 b0) (IntOp.muli a0 b1)
    let t := IntOp.addi (IntOp.shrui .host lo 16#32) (IntOp.andi mid 65535#32)
    let low32 := IntOp.ori (IntOp.shli .host (IntOp.andi t 65535#32) 16#32) (IntOp.andi lo 65535#32)
    let low2 := IntOp.addi low32 c
    let high2 := IntOp.addi (IntOp.addi (IntOp.addi (IntOp.muli a1 b1) (IntOp.shrui .host mid 16#32)) (IntOp.shrui .host t 16#32))
      ((IntOp.cmpi .ult low2 low32).setWidth 32)
    (IntOp.ori (IntOp.shli .host high2 1#32) (IntOp.shrui .host low2 31#32)).toNat = (u.toNat * m.toNat + c.toNat) / 2147483648 := by
  intro a1 a0 b1 b0 lo mid t low32 low2 high2
  have ha1 : a1.toNat = u.toNat / 65536 := toNat_shrui .host u 16 (by decide)
  have ha0 : a0.toNat = u.toNat % 65536 := toNat_lo16 u
  have hb1 : b1.toNat = m.toNat / 65536 := toNat_shrui .host m 16 (by decide)
  have hb0 : b0.toNat = m.toNat % 65536 := toNat_lo16 m
  have x1 : a1.toNat ≤ 32768 := by omega
  have x0 : a0.toNat ≤ 65535 := by omega
  have y1 : b1.toNat ≤ 32767 := by omega
  have y0 : b0.toNat ≤ 65535 := by omega
  have eu : u.toNat = 65536 * a1.toNat + a0.toNat := by omega
  have em : m.toNat = 65536 * b1.toNat + b0.toNat := by omega
  have p00 : a0.toNat * b0.toNat ≤ 65535 * 65535 := Nat.mul_le_mul x0 y0
  have p10 : a1.toNat * b0.toNat ≤ 32768 * 65535 := Nat.mul_le_mul x1 y0
  have p01 : a0.toNat * b1.toNat ≤ 65535 * 32767 := Nat.mul_le_mul x0 y1
  have p11 : a1.toNat * b1.toNat ≤ 32768 * 32767 := Nat.mul_le_mul x1 y1
  have e : u.toNat * m.toNat = 4294967296 * (a1.toNat * b1.toNat) + 65536 * (a1.toNat * b0.toNat) + 65536 * (a0.toNat * b1.toNat)
      + a0.toNat * b0.toNat := by rw [eu, em]; ring
  have hlo : lo.toNat = a0.toNat * b0.toNat := by
    show (a0 * b0).toNat = _
    rw [BitVec.toNat_mul]; exact Nat.mod_eq_of_lt (by omega)
  have hmid : mid.toNat = a1.toNat * b0.toNat + a0.toNat * b1.toNat := by
    show (a1 * b0 + a0 * b1).toNat = _
    rw [BitVec.toNat_add, BitVec.toNat_mul, BitVec.toNat_mul]; omega
  have hhi : (IntOp.muli a1 b1).toNat = a1.toNat * b1.toNat := by
    show (a1 * b1).toNat = _
    rw [BitVec.toNat_mul]; exact Nat.mod_eq_of_lt (by omega)
  rw [e]
  generalize a1.toNat * b1.toNat = P11 at *
  generalize a1.toNat * b0.toNat = P10 at *
  generalize a0.toNat * b1.toNat = P01 at *
  generalize a0.toNat * b0.toNat = P00 at *
  have ht : t.toNat = lo.toNat / 65536 + mid.toNat % 65536 := by
    show (IntOp.shrui .host lo 16#32 + IntOp.andi mid 65535#32).toNat = _
    have h1 : (IntOp.shrui .host lo 16#32).toNat = lo.toNat / 65536 := toNat_shrui .host lo 16 (by decide)
    rw [BitVec.toNat_add, h1, toNat_lo16]; omega
  have hlow : low32.toNat = t.toNat % 65536 * 65536 + lo.toNat % 65536 := by
    have h1 : (IntOp.shli .host (IntOp.andi t 65535#32) 16#32).toNat = t.toNat % 65536 * 65536 := by
      refine (toNat_shli .host (IntOp.andi t 65535#32) 16 (by decide)).trans ?_
      rw [toNat_lo16]; omega
    have h2 := toNat_lo16 lo
    exact (toNat_ori _ _ 16 (t.toNat % 65536) h1 (by rw [h2]; omega)).trans (by rw [h1, h2])
  have hlow2 : low2.toNat = (low32.toNat + c.toNat) % 4294967296 := BitVec.toNat_add _ _
  have hcar : ((IntOp.cmpi .ult low2 low32).setWidth 32).toNat = (low32.toNat + c.toNat) / 4294967296 := by
    rw [toNat_ult]
    have := low32.isLt
    split <;> omega
  have hh2 : high2.toNat = (P11 + mid.toNat / 65536 + t.toNat / 65536 + (low32.toNat + c.toNat) / 4294967296) % 4294967296 := by
    have h1 : (IntOp.shrui .host mid 16#32).toNat = mid.toNat / 65536 := toNat_shrui .host mid 16 (by decide)
    have h2 : (IntOp.shrui .host t 16#32).toNat = t.toNat / 65536 := toNat_shrui .host t 16 (by decide)
    show (IntOp.muli a1 b1 + IntOp.shrui .host mid 16#32 + IntOp.shrui .host t 16#32 + (IntOp.cmpi .ult low2 low32).setWidth 32).toNat = _
    rw [BitVec.toNat_add, BitVec.toNat_add, BitVec.toNat_add, hcar, h1, h2, hhi]
    omega
  have h1 : (IntOp.shli .host high2 1#32).toNat = high2.toNat * 2 % 4294967296 := toNat_shli .host high2 1 (by decide)
  have h2 : (IntOp.shrui .host low2 31#32).toNat = low2.toNat / 2147483648 := toNat_shrui .host low2 31 (by decide)
  have := low2.isLt
  rw [toNat_ori _ _ 1 (high2.toNat % 2147483648) (by rw [h1]; omega) (by rw [h2]; omega), h1, h2]
  clear_value a1 a0 b1 b0 lo mid t low32 low2 high2
  clear h1 h2 ha1 ha0 hb1 hb0 eu em e hcar hhi
  omega

/-- The reference's product is the same number, for every accumulator and every multiplier that is not negative. -/
theorem rScale_eq (a m : BitVec 32) (hm : 0 ≤ m.toInt) : rScale a m = BitVec.ofInt 32 (scaled a m) := by
  have hu := toNat_absi a
  have ham := BitVec.toInt_lt (x := a); have ham' := BitVec.le_toInt a
  norm_num at ham ham'
  have sm := toInt_split m
  have bm := m.isLt
  have hmn : (m.toNat : ℤ) = m.toInt := by omega
  have hm' : m.toNat < 2147483648 := by have := BitVec.toInt_lt (x := m); norm_num at this; omega
  unfold rScale scaled
  by_cases hp : 0 ≤ a.toInt
  · have h1 : IntOp.cmpi .sge a 0#32 = 1 := (sge_zero a).2 hp
    rw [abs_of_nonneg hp] at hu
    have := high_word (IntOp.absi a) m 1073741824#32 (by omega) hm' (by decide)
    simp only [h1, Scalar.select, if_pos]
    rw [eq_ofNat (IntOp.ori _ _), this]
    congr 1
    push_cast
    rw [hu, hmn]
  · have h1 : ¬ IntOp.cmpi .sge a 0#32 = 1 := fun h => hp ((sge_zero a).1 h)
    rw [abs_of_neg (by omega)] at hu
    have := high_word (IntOp.absi a) m 1073741823#32 (by omega) hm' (by decide)
    simp only [Scalar.select, if_neg h1]
    rw [eq_ofNat (IntOp.ori _ _), this, ← BitVec.ofInt_neg]
    congr 1
    push_cast
    rw [hu, hmn]
    have e : -a.toInt * m.toInt = -(a.toInt * m.toInt) := by ring
    rw [e]
    generalize a.toInt * m.toInt = P
    omega

/-- Kernel and reference agree on the fixed-point product. -/
theorem kScale_eq_rScale (a m : BitVec 32) (hm : 0 ≤ m.toInt) : kScale a m = rScale a m :=
  (kScale_eq a m hm).trans (rScale_eq a m hm).symm

/-! ## The rounding shift -/

/-- The kernel's rounding shift: amounts outside `0 … 31` are handled apart. -/
def kRound (q s : BitVec 32) : BitVec 32 :=
  let oor := IntOp.ori (IntOp.cmpi .slt s 0#32) (IntOp.cmpi .sgt s 31#32)
  let mask := IntOp.subi (Scalar.select oor 0#32 (IntOp.shli .vector 1#32 (Scalar.select oor 0#32 s))) 1#32
  IntOp.addi (IntOp.shrsi .vector q (Scalar.select oor 31#32 s))
    ((IntOp.cmpi .sgt (IntOp.andi q mask) (IntOp.subi (IntOp.shrsi .vector mask 1#32) (IntOp.shrsi .vector q 31#32))).setWidth 32)

/-- The reference's rounding shift. -/
def rRound (q s : BitVec 32) : BitVec 32 :=
  let mask := IntOp.subi (IntOp.shli .host 1#32 s) 1#32
  IntOp.addi (IntOp.shrsi .host q s)
    ((IntOp.cmpi .sgt (IntOp.andi q mask) (IntOp.addi (IntOp.shrsi .host mask 1#32) ((IntOp.cmpi .slt q 0#32).setWidth 32))).setWidth 32)

/-- A word shifted by 31 is all ones where it is negative, else zero. -/
theorem shrsi_31 (u : ArithUnit) (q : BitVec 32) : IntOp.shrsi u q 31#32 = if q.msb then BitVec.allOnes 32 else 0 := by
  apply BitVec.eq_of_toInt_eq
  have h : (IntOp.shrsi u q 31#32).toInt = q.toInt / 2147483648 := toInt_shrsi u q 31 (by decide)
  have h1 := BitVec.toInt_lt (x := q); have h2 := BitVec.le_toInt q
  norm_num at h1 h2
  rw [h, BitVec.msb_eq_toInt]
  by_cases hq : q.toInt < 0
  · rw [if_pos (by simpa using hq)]
    have : (BitVec.allOnes 32).toInt = -1 := by decide
    omega
  · rw [if_neg (by simpa using hq)]
    have : (0 : BitVec 32).toInt = 0 := by decide
    omega

/-- Subtracting a word's sign fill is adding one where it is negative. -/
theorem sub_sign (u : ArithUnit) (x q : BitVec 32) :
    IntOp.subi x (IntOp.shrsi u q 31#32) = IntOp.addi x ((IntOp.cmpi .slt q 0#32).setWidth 32) := by
  rw [shrsi_31]
  unfold IntOp.subi IntOp.addi IntOp.cmpi
  have h : q.slt 0#32 = q.msb := by rw [BitVec.slt_zero_eq_msb]
  simp only [h]
  cases q.msb
  · simp
  · have e : BitVec.allOnes 32 = -1#32 := by decide
    have e' : (BitVec.ofBool true).setWidth 32 = 1#32 := by decide
    simp only [if_true, e, e']
    rw [BitVec.sub_eq_add_neg, BitVec.neg_neg]

/-- Kernel and reference agree on the rounding shift, whatever the amount. -/
theorem kRound_eq_rRound (q s : BitVec 32) : kRound q s = rRound q s := by
  have hs := toInt_split s
  have bs := s.isLt
  unfold kRound rRound
  simp only [sub_sign]
  have hun (x : BitVec 32) : IntOp.shrsi .vector x 1#32 = IntOp.shrsi .host x 1#32 := rfl
  rw [hun]
  by_cases h : s.toNat < 32
  · have hi : s.toInt = (s.toNat : ℤ) := by
      rw [BitVec.toInt_eq_toNat_cond, if_pos (by omega)]
    have ho : IntOp.ori (IntOp.cmpi .slt s 0#32) (IntOp.cmpi .sgt s 31#32) = 0 := by
      unfold IntOp.ori IntOp.cmpi
      have h1 : s.slt 0#32 = false := by
        rw [BitVec.slt_eq_decide, hi]; simp
      have h2 : (31#32).slt s = false := by
        rw [BitVec.slt_eq_decide, hi]
        have : (31#32).toInt = 31 := by decide
        rw [this]; simp; omega
      simp only [h1, h2]; decide
    rw [ho]
    simp only [Scalar.select]
    rw [if_neg (by decide), if_neg (by decide), if_neg (by decide)]
    unfold IntOp.shli
    simp only [if_pos h]
    have hq : IntOp.shrsi .vector q s = IntOp.shrsi .host q s := by
      unfold IntOp.shrsi; rw [if_pos h, if_pos h]
    rw [hq]
  · have ho : IntOp.ori (IntOp.cmpi .slt s 0#32) (IntOp.cmpi .sgt s 31#32) = 1 := by
      unfold IntOp.ori IntOp.cmpi
      rcases hs with hs | hs
      · have h2 : (31#32).slt s = true := by
          rw [BitVec.slt_eq_decide, hs]
          have : (31#32).toInt = 31 := by decide
          rw [this]; simp; omega
        simp only [h2]
        cases s.slt 0#32 <;> decide
      · have h2 : s.slt 0#32 = true := by
          rw [BitVec.slt_eq_decide, hs]
          have : (0#32).toInt = 0 := by decide
          rw [this]; simp; omega
        simp only [h2]
        cases (31#32).slt s <;> decide
    rw [ho]
    simp only [Scalar.select, if_true]
    have h1 : IntOp.shli .host 1#32 s = 0#32 := by
      unfold IntOp.shli; rw [if_neg h]; rfl
    have h2 : IntOp.shrsi .host q s = IntOp.shrsi .vector q 31#32 := by
      rw [shrsi_31]
      unfold IntOp.shrsi; rw [if_neg h]; rfl
    rw [h1, h2]

end Cert.Words

end
-- ==== Proof.Sums.lean ====
/-
  What the kernel's sums are over the extended reals: the accumulator, the row sums and the column sums are whole numbers,
  the plain sums of the shifted bytes and the shifted four-bit weights.
-/
module

public import proofs.«01_k».proof.Proof.Run
public import proofs.«01_k».proof.Proof.Words
public import Idealize.ShloMosaic.Lib.BitcastPair
public import Idealize.ShloMosaic.Lib.Pointwise

@[expose] public section

set_option maxRecDepth 8192

noncomputable section

namespace Cert.KernelIdeal.Value

open Idealize.ShloMosaic Idealize.ShloMosaic.TcCoe Idealize.ShloMosaic.Tactic
open Cert.KernelIdeal Cert.KernelIdeal.Gen

/-- A whole number as an extended real. -/
def ec (z : ℤ) : EReal := ((z : ℝ) : EReal)

theorem ec_zero : ec 0 = 0 := by simp [ec]
theorem ec_add (a b : ℤ) : ec (a + b) = ec a + ec b := by simp [ec, EReal.coe_add]
theorem ec_mul (a b : ℤ) : ec (a * b) = ec a * ec b := by simp [ec, EReal.coe_mul]
theorem ec_sum {n : ℕ} (f : ℕ → ℤ) : ∑ k : Fin n, ec (f k) = ec (∑ k ∈ Finset.range n, f k) := by
  induction n with
  | zero => simp [ec_zero]
  | succ n ih => rw [Fin.sum_univ_castSucc, Finset.sum_range_succ, ec_add, ← ih]; rfl

/-- Converting a whole number of the word's range to a word gives that number. -/
theorem fptosi_ec (z : ℤ) (h1 : -2147483648 ≤ z) (h2 : z ≤ 2147483647) : Ideal.fptosi 32 (ec z) = BitVec.ofInt 32 z := by
  unfold Ideal.fptosi ec
  rw [Ideal.toIntClamped_coe]
  congr 1
  have : (if 0 ≤ (z : ℝ) then ⌊(z : ℝ)⌋ else ⌈(z : ℝ)⌉) = z := by split <;> simp
  rw [this]
  norm_num
  omega

/-- A sum over `n` blocks of `b` terms is the sum over all of them. -/
theorem sum_blocks (f : ℕ → ℤ) (n b : ℕ) : ∑ k ∈ Finset.range n, ∑ q ∈ Finset.range b, f (b * k + q) = ∑ k ∈ Finset.range (b * n), f k := by
  induction n with
  | zero => simp
  | succ n ih => rw [Finset.sum_range_succ, ih, Nat.mul_succ, Finset.sum_range_add]

/-- Element `(r, k)` of the converted copy: the byte less 128. -/
def xv (x : S768x16384.Idx → BitVec 8) (r : Fin 768) (k : ℕ) : ℤ :=
  ((x (ix2 r ⟨k % 16384, Nat.mod_lt _ (by decide)⟩)).toNat : ℤ) - 128

/-- The low (`h` even) or the high four bits of a byte. -/
def nib (b : BitVec 8) (h : ℕ) : ℤ := if h % 2 = 0 then (b.toNat : ℤ) % 16 else (b.toNat : ℤ) / 16

/-- Element `(k, c)` of the unpacked weights: the four-bit number less 8. -/
def wv (w : S8192x512.Idx → BitVec 8) (k : ℕ) (c : Fin 512) : ℤ :=
  nib (w (ix2 ⟨(k / 2) % 8192, Nat.mod_lt _ (by decide)⟩ c)) k - 8

theorem xor_toInt (b : BitVec 8) : (b ^^^ 128#8).toInt = (b.toNat : ℤ) - 128 := by
  revert b; decide +kernel

/-- The word that holds a byte's two shifted numbers as its half words. -/
def unpackWord (b : BitVec 8) : BitVec 32 :=
  let v := (IntOp.xori b 136#8).setWidth 32
  IntOp.ori (IntOp.andi (IntOp.shrsi .vector (IntOp.shli .vector v 28#32) 28#32) 65535#32)
    (IntOp.shli .vector (IntOp.shrsi .vector (IntOp.shli .vector v 24#32) 28#32) 16#32)

theorem unpack_lo (b : BitVec 8) : ((unpackWord b).extractLsb' 0 16).toInt = (b.toNat : ℤ) % 16 - 8 := by
  revert b; decide +kernel

theorem unpack_hi (b : BitVec 8) : ((unpackWord b).extractLsb' 16 16).toInt = (b.toNat : ℤ) / 16 - 8 := by
  revert b; decide +kernel

/-- The unpacked weights of one trip, element by element. -/
theorem pay9_apply (w : Vec Ideal S8192x512 .i8) (k : ℕ) (q : Fin 1024) (c : Fin 512) :
    k0_pay9 (F := Ideal) (rowBlk w k) (ix2 q c) = ec (wv w (1024 * k + q.val) c) := by
  unfold k0_pay9
  show ec ((bitcast S1024x512 16 _ bitcasts_S512x512_w32_S1024x512_w16 (ix2 q c) : BitVec 16).toInt) = _
  rw [bitcast_32_16]
  have hrow : (S1024x512).row (ix2 q c) = q.val := rfl
  have hsrc : (bitcasts_S512x512_w32_S1024x512_w16).srcIdx (ix2 q c) (S1024x512.row (ix2 q c) / 2) (fun a ha => by
        have := (bitcasts_S512x512_w32_S1024x512_w16).pos_lt (ix2 q c) 0 (by decide) a ha; omega)
      = ix2 (⟨q.val / 2, by omega⟩ : Fin 512) c := by
    funext a
    match a with
    | ⟨0, _⟩ => rfl
    | ⟨1, _⟩ => rfl
  rw [hsrc, hrow]
  show ec ((unpackWord (rowBlk w k (ix2 (⟨q.val / 2, by omega⟩ : Fin 512) c))).extractLsb' (16 * (q.val % 2)) 16).toInt = _
  have hb : rowBlk w k (ix2 (⟨q.val / 2, by omega⟩ : Fin 512) c)
      = w (ix2 ⟨((1024 * k + q.val) / 2) % 8192, Nat.mod_lt _ (by decide)⟩ c) := by
    unfold rowBlk
    congr 2
    exact Fin.ext (by show (512 * k + q.val / 2) % 8192 = _; congr 1; omega)
  rw [hb]
  unfold wv nib
  congr 1
  by_cases h : q.val % 2 = 0
  · rw [if_pos (by omega), h]; exact unpack_lo _
  · rw [if_neg (by omega), show q.val % 2 = 1 by omega]; exact unpack_hi _

/-- The converted copy, element by element. -/
theorem XB_colBlk (x : Vec Ideal S768x16384 .i8) (k : ℕ) (r : Fin 768) (q : Fin 1024) :
    colBlk (XB (F := Ideal) x) k (ix2 r q) = ec (xv x r (1024 * k + q.val)) := by
  unfold colBlk XB xv
  show ec ((_ ^^^ 128#8 : BitVec 8).toInt) = _
  rw [xor_toInt]
  rfl

/-- The converted block of one trip of the first loop, element by element. -/
theorem pay3_apply (x : Vec Ideal S768x16384 .i8) (k : ℕ) (r : Fin 768) (q : Fin 1024) :
    k0_pay3 (F := Ideal) (colBlk x k) (ix2 r q) = ec (xv x r (1024 * k + q.val)) := by
  refine Eq.trans ?_ (XB_colBlk x k r q)
  unfold k0_pay3
  simp only [shapeCast_self]
  rfl

/-- The accumulator before trip `n`: the sum of the products of the first `1024 n` columns. -/
theorem ACC_apply (w : Vec Ideal S8192x512 .i8) (x : Vec Ideal S768x16384 .i8) (n : ℕ) (r : Fin 768) (c : Fin 512) :
    ACC (F := Ideal) w (XB x) n (ix2 r c) = ec (∑ k ∈ Finset.range (1024 * n), xv x r k * wv w k c) := by
  induction n with
  | zero => unfold ACC k0_pay7; pointwise; simp [ec_zero]
  | succ n ih =>
    unfold ACC k0_pay10
    pointwise
    rw [ih, Nat.mul_succ, Finset.sum_range_add, ec_add]
    refine congrArg (ec (∑ k ∈ Finset.range (1024 * n), xv x r k * wv w k c) + ·) ?_
    refine Eq.trans (Finset.sum_congr rfl fun q _ => ?_) (ec_sum (n := 1024) fun q => xv x r (1024 * n + q) * wv w (1024 * n + q) c)
    rw [ec_mul, ← XB_colBlk, ← pay9_apply]

/-- The column sums before trip `n`. -/
theorem CS_apply (w : Vec Ideal S8192x512 .i8) (n : ℕ) (c : Fin 512) (p : S1x512.Idx) (hp : p 1 = c) :
    CS (F := Ideal) w n p = ec (∑ k ∈ Finset.range (1024 * n), wv w k c) := by
  induction n with
  | zero => unfold CS k0_pay8; pointwise; simp [ec_zero]
  | succ n ih =>
    unfold CS k0_pay11
    pointwise
    rw [ih, Nat.mul_succ, Finset.sum_range_add, ec_add]
    refine congrArg (ec (∑ k ∈ Finset.range (1024 * n), wv w k c) + ·) ?_
    refine Eq.trans (Finset.sum_congr rfl fun q _ => ?_) (ec_sum (n := 1024) fun q => wv w (1024 * n + q) c)
    rw [← pay9_apply, hp]

/-- The lanes of row sums before trip `n`. -/
theorem RS_apply (x : Vec Ideal S768x16384 .i8) (n : ℕ) (r : Fin 768) (l : Fin 128) :
    RS (F := Ideal) x n (ix2 r l) = ec (∑ i ∈ Finset.range (8 * n), xv x r (128 * i + l.val)) := by
  induction n with
  | zero => unfold RS k0_pay2; pointwise; simp [ec_zero]
  | succ n ih =>
    unfold RS k0_pay5
    pointwise
    have e (s : ℕ) (hs : 128 * s + l.val < 1024) :
        k0_pay3 (F := Ideal) (colBlk x n) (ix2 r ⟨128 * s + l.val, hs⟩) = ec (xv x r (128 * (8 * n + s) + l.val)) := by
      refine (pay3_apply x n r _).trans (congrArg (fun t => ec (xv x r t)) ?_)
      show 1024 * n + (128 * s + l.val) = _
      ring
    have hl := l.isLt
    rw [ih, show 8 * (n + 1) = 8 * n + 8 by ring, Finset.sum_range_add]
    simp only [Finset.sum_range_succ, Finset.sum_range_zero, ec_add, ec_zero, zero_add]
    rw [← e 0 (by omega), ← e 1 (by omega), ← e 2 (by omega), ← e 3 (by omega), ← e 4 (by omega), ← e 5 (by omega), ← e 6 (by omega), ← e 7 (by omega)]
    simp only [add_assoc, Nat.mul_zero, Nat.zero_add, Nat.mul_one, Nat.reduceMul]

/-- The row sums. -/
theorem RSF_apply (x : Vec Ideal S768x16384 .i8) (r : Fin 768) (l : Fin 128) :
    RSF (F := Ideal) x (ix2 r l) = ec (∑ k ∈ Finset.range 16384, xv x r k) := by
  unfold RSF k0_pay6
  pointwise
  refine Eq.trans (Finset.sum_congr rfl fun l' _ => RS_apply x 16 r l') ?_
  rw [ec_sum (n := 128) fun l' => ∑ i ∈ Finset.range (8 * 16), xv x r (128 * i + l'), Finset.sum_comm, sum_blocks (xv x r) (8 * 16) 128]

/-! ## Their bounds, and what the kernel makes of them -/

theorem xv_bound (x : S768x16384.Idx → BitVec 8) (r : Fin 768) (k : ℕ) : |xv x r k| ≤ 128 := by
  unfold xv
  have := (x (ix2 r ⟨k % 16384, Nat.mod_lt _ (by decide)⟩)).isLt
  rw [abs_le]; omega

theorem wv_bound (w : S8192x512.Idx → BitVec 8) (k : ℕ) (c : Fin 512) : |wv w k c| ≤ 8 := by
  unfold wv nib
  have := (w (ix2 ⟨(k / 2) % 8192, Nat.mod_lt _ (by decide)⟩ c)).isLt
  rw [abs_le]; split <;> omega

theorem sum_bound (f : ℕ → ℤ) (b : ℤ) (hf : ∀ k, |f k| ≤ b) (n : ℕ) : |∑ k ∈ Finset.range n, f k| ≤ n * b := by
  refine (Finset.abs_sum_le_sum_abs _ _).trans ((Finset.sum_le_sum fun k _ => hf k).trans ?_)
  simp

/-- The kernel's accumulator of integers at row `r` and column `c` of a block: the product less the zero points' terms, plus the bias. -/
def kAcc (zps : Vec Ideal S2 .i32) (x : Vec Ideal S768x16384 .i8) (w : Vec Ideal S8192x512 .i8) (cols : Vec Ideal S4x512 .i32)
    (r : Fin 768) (c : Fin 512) : BitVec 32 :=
  BitVec.ofInt 32 (∑ k ∈ Finset.range 16384, xv x r k * wv w k c)
      + (8#32 - cols (ix2 0 c)) * BitVec.ofInt 32 (∑ k ∈ Finset.range 16384, xv x r k)
    + (cols (ix2 1 c) + (128#32 - zps (ix1 0)) * BitVec.ofInt 32 (∑ k ∈ Finset.range 16384, wv w k c)
      + 16384#32 * (128#32 - zps (ix1 0)) * (8#32 - cols (ix2 0 c)))

/-- The block of results at an element: the accumulator scaled, shifted with rounding, offset, clamped to a byte. -/
theorem OUT_apply (zps : Vec Ideal S2 .i32) (x : Vec Ideal S768x16384 .i8) (w : Vec Ideal S8192x512 .i8) (cols : Vec Ideal S4x512 .i32)
    (r : Fin 768) (c : Fin 512) :
    OUT (F := Ideal) zps (XB x) (RSF x) w cols (ix2 r c)
      = (IntOp.minsi 255#32 (IntOp.maxsi 0#32 (IntOp.addi (Words.kRound (Words.kScale (kAcc zps x w cols r c) (cols (ix2 2 c))) (cols (ix2 3 c)))
          (zps (ix1 1))))).setWidth 8 := by
  have hA : Ideal.fptosi 32 (ACC (F := Ideal) w (XB x) 16 (ix2 r c)) = BitVec.ofInt 32 (∑ k ∈ Finset.range 16384, xv x r k * wv w k c) := by
    rw [ACC_apply, show 1024 * 16 = 16384 from rfl]
    have := abs_le.1 (sum_bound (fun k => xv x r k * wv w k c) (128 * 8) (fun k => by
      rw [abs_mul]; exact mul_le_mul (xv_bound x r k) (wv_bound w k c) (abs_nonneg _) (by norm_num)) 16384)
    norm_num at this
    exact fptosi_ec _ (by omega) (by omega)
  have hR (l : Fin 128) : Ideal.fptosi 32 (RSF (F := Ideal) x (ix2 r l)) = BitVec.ofInt 32 (∑ k ∈ Finset.range 16384, xv x r k) := by
    rw [RSF_apply]
    have := abs_le.1 (sum_bound (fun k => xv x r k) 128 (xv_bound x r) 16384)
    norm_num at this
    exact fptosi_ec _ (by omega) (by omega)
  have hC (p : S1x512.Idx) (hp : p 1 = c) : Ideal.fptosi 32 (CS (F := Ideal) w 16 p) = BitVec.ofInt 32 (∑ k ∈ Finset.range 16384, wv w k c) := by
    rw [CS_apply w 16 c p hp, show 1024 * 16 = 16384 from rfl]
    have := abs_le.1 (sum_bound (fun k => wv w k c) 8 (fun k => wv_bound w k c) 16384)
    norm_num at this
    exact fptosi_ec _ (by omega) (by omega)
  have hk : kAcc zps x w cols r c
      = IntOp.addi
          (IntOp.addi (FloatOps.fptosi (F := Ideal) (φ := .f32) 32 (ACC (F := Ideal) w (XB x) 16 (ix2 r c)))
            (IntOp.muli (IntOp.subi (8#32) (colRow (F := Ideal) cols 0 (ix2 0 c))) (FloatOps.fptosi (F := Ideal) (φ := .f32) 32 (RSF (F := Ideal) x (ix2 r 0)))))
          (IntOp.addi
            (IntOp.addi (colRow (F := Ideal) cols 1 (ix2 0 c))
              (IntOp.muli (Scalar.subi (128#32) (zps (ix1 0))) (FloatOps.fptosi (F := Ideal) (φ := .f32) 32 (CS (F := Ideal) w 16 (ix2 0 c)))))
            (IntOp.muli (Scalar.muli (16384#32) (Scalar.subi (128#32) (zps (ix1 0)))) (IntOp.subi (8#32) (colRow (F := Ideal) cols 0 (ix2 0 c))))) := by
    unfold kAcc
    rw [← hA, ← hR 0, ← hC (ix2 0 c) rfl]
    rfl
  rw [hk]
  unfold OUT
  unfold k0_pay1 k0_pay15 k0_pay16 k0_pay17 k0_pay13 k0_pay14 k0_pay15 k0_pay12
  pointwise
  rfl

end Cert.KernelIdeal.Value

end
-- ==== Proof.Spec.lean ====
/-
  The value that both programs end with, element by element, in plain words: the accumulator of the product of the bytes
  and the four-bit weights about their zero points, in words of 32 bits, and its two spellings.
-/
module

public import proofs.«01_k».proof.Proof.Sums

@[expose] public section

noncomputable section

namespace Cert.Spec

open Idealize.ShloMosaic Idealize.ShloMosaic.TcCoe
open Cert.KernelIdeal Cert.KernelIdeal.Value

/-- The byte of token `(b, s)` in column `k`. -/
def X (x : Vec Ideal S2x384x16384 .i8) (b : Fin 2) (s : Fin 384) (k : ℕ) : ℤ :=
  ((x (ix3 b s ⟨k % 16384, Nat.mod_lt _ (by norm_num)⟩) : BitVec 8).toNat : ℤ)

/-- The four-bit weight of row `k` and output column `n`: rows `2 j` and `2 j + 1` are the low and the high half of packed row `j`. -/
def W (w : Vec Ideal S8192x3584 .i8) (k : ℕ) (n : Fin 3584) : ℤ :=
  nib (w (ix2 ⟨(k / 2) % 8192, Nat.mod_lt _ (by norm_num)⟩ n)) k

/-- The accumulator about the zero points, the way it is written down: the product of the integers, less the zero points' share. -/
def rAcc (x : Vec Ideal S2x384x16384 .i8) (za : BitVec 32) (w : Vec Ideal S8192x3584 .i8) (zb bias : BitVec 32)
    (b : Fin 2) (s : Fin 384) (n : Fin 3584) : BitVec 32 :=
  BitVec.ofInt 32 (∑ k ∈ Finset.range 16384, X x b s k * W w k n) - zb * BitVec.ofInt 32 (∑ k ∈ Finset.range 16384, X x b s k)
      - za * BitVec.ofInt 32 (∑ k ∈ Finset.range 16384, W w k n) + 16384#32 * za * zb + bias

/-- The result at an element, from its accumulator. -/
def out (acc mult shift zo : BitVec 32) : BitVec 8 :=
  (IntOp.minsi 255#32 (IntOp.maxsi 0#32 (IntOp.addi (Words.rRound (Words.rScale acc mult) shift) zo))).setWidth 8

/-- The whole result: element `(b, s, n)` from the bytes of token `(b, s)` and the parameters of column `n`. -/
def result (x : Vec Ideal S2x384x16384 .i8) (za : Vec Ideal S_ .i32) (w : Vec Ideal S8192x3584 .i8)
    (zb bias mult shift : Vec Ideal S3584 .i32) (zo : Vec Ideal S_ .i32) (b : Fin 2) (s : Fin 384) (n : Fin 3584) : BitVec 8 :=
  out (rAcc x (za ix0) w (zb (ix1 n)) (bias (ix1 n)) b s n) (mult (ix1 n)) (shift (ix1 n)) (zo ix0)

/-- The accumulator of the numbers shifted by 128 and by 8, corrected for the shifts, is the accumulator about the zero points. -/
theorem acc_shift (f g : ℕ → ℤ) (za zb bias : BitVec 32) :
    BitVec.ofInt 32 (∑ k ∈ Finset.range 16384, (f k - 128) * (g k - 8))
        + (8#32 - zb) * BitVec.ofInt 32 (∑ k ∈ Finset.range 16384, (f k - 128))
      + (bias + (128#32 - za) * BitVec.ofInt 32 (∑ k ∈ Finset.range 16384, (g k - 8))
        + 16384#32 * (128#32 - za) * (8#32 - zb))
      = BitVec.ofInt 32 (∑ k ∈ Finset.range 16384, f k * g k) - zb * BitVec.ofInt 32 (∑ k ∈ Finset.range 16384, f k)
          - za * BitVec.ofInt 32 (∑ k ∈ Finset.range 16384, g k) + 16384#32 * za * zb + bias := by
  have e1 : ∑ k ∈ Finset.range 16384, (f k - 128) * (g k - 8)
      = ∑ k ∈ Finset.range 16384, f k * g k - 8 * ∑ k ∈ Finset.range 16384, f k - 128 * ∑ k ∈ Finset.range 16384, g k
        + 16777216 := by
    rw [Finset.mul_sum, Finset.mul_sum, ← Finset.sum_sub_distrib, ← Finset.sum_sub_distrib,
      show (16777216 : ℤ) = ∑ _k ∈ Finset.range 16384, (1024 : ℤ) by rw [Finset.sum_const, Finset.card_range]; norm_num,
      ← Finset.sum_add_distrib]
    exact Finset.sum_congr rfl fun k _ => by ring
  have e2 (h : ℕ → ℤ) (z : ℤ) : ∑ k ∈ Finset.range 16384, (h k - z) = ∑ k ∈ Finset.range 16384, h k - 16384 * z := by
    rw [Finset.sum_sub_distrib, Finset.sum_const, Finset.card_range]; norm_num
  rw [e1, e2, e2]
  generalize ∑ k ∈ Finset.range 16384, f k * g k = A
  generalize ∑ k ∈ Finset.range 16384, f k = B
  generalize ∑ k ∈ Finset.range 16384, g k = C
  rw [← BitVec.ofInt_toInt (x := za), ← BitVec.ofInt_toInt (x := zb), ← BitVec.ofInt_toInt (x := bias)]
  generalize za.toInt = a
  generalize zb.toInt = b
  generalize bias.toInt = d
  rw [show (8#32) = BitVec.ofInt 32 8 from rfl, show (128#32) = BitVec.ofInt 32 128 from rfl,
    show (16384#32) = BitVec.ofInt 32 16384 from rfl]
  have sub (p q : ℤ) : BitVec.ofInt 32 p - BitVec.ofInt 32 q = BitVec.ofInt 32 (p - q) := by
    rw [BitVec.sub_eq_add_neg, ← BitVec.ofInt_neg, ← BitVec.ofInt_add, Int.sub_eq_add_neg]
  simp only [sub, ← BitVec.ofInt_add, ← BitVec.ofInt_mul]
  exact congrArg (BitVec.ofInt 32) (by ring)

end Cert.Spec
-- ==== Proof.KernelValue.lean ====
/-
  The kernel's run in closed form: its result array, element by element.
-/
module

public import proofs.«01_k».proof.Proof.Body
public import proofs.«01_k».proof.Proof.Spec
public import Idealize.ShloMosaic.Lib.Pipeline.ValueKit
public import Idealize.ShloMosaic.Lib.Claim

@[expose] public section

set_option maxRecDepth 8192

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem idx0 : ∀ t : Fin cfg0.N, win0_0.index t = ![0] := by decide +kernel
theorem idx1 : ∀ t : Fin cfg0.N, win0_1.index t = ![0, 0] := by decide +kernel
theorem idx2 : ∀ t : Fin cfg0.N, win0_2.index t = ![0, t.val] := by decide +kernel
theorem idx3 : ∀ t : Fin cfg0.N, win0_3.index t = ![0, t.val] := by decide +kernel
theorem idx4 : ∀ t : Fin cfg0.N, win0_4.index t = ![0, t.val] := by decide +kernel

/-- The packed weights' block at point `t`: columns `512 t` onwards. -/
theorem blk_w (c : Dev nD) (t : Fin cfg0.N) (j : Fin 8192) (n : Fin 512) (h : 512 * t.val + n.val < 3584) :
    (iblk m c 2 t : Vec Ideal S8192x512 .i8) (ix2 j n)
      = (m ((c : Thread nD τ).loc main_arg2) : Vec Ideal S8192x3584 .i8) (ix2 j ⟨512 * t.val + n.val, h⟩) := by
  blk_ext [iblk, V, idx2 t]

/-- The bytes, their two leading axes as one. -/
theorem flat (x : Vec Ideal S2x384x16384 .i8) (b : Fin 2) (s : Fin 384) (k : Fin 16384) (h : 384 * b.val + s.val < 768) :
    (shapeCast S768x16384 x shapeCasts_S2x384x16384_S768x16384) (ix2 ⟨384 * b.val + s.val, h⟩ k) = x (ix3 b s k) := by
  pointwise

/-- The result, its leading axis as two. -/
theorem unflat (y : Vec Ideal S768x3584 .i8) (b : Fin 2) (s : Fin 384) (k : Fin 3584) (h : 384 * b.val + s.val < 768) :
    (shapeCast S2x384x3584 y shapeCasts_S768x3584_S2x384x3584) (ix3 b s k) = y (ix2 ⟨384 * b.val + s.val, h⟩ k) := by
  pointwise
  blk_ext []

/-- The bytes' block is the whole array, its two leading axes as one. -/
theorem blk_x (c : Dev nD) (t : Fin cfg0.N) (b : Fin 2) (s : Fin 384) (k : Fin 16384) (h : 384 * b.val + s.val < 768) :
    (iblk m c 1 t : Vec Ideal S768x16384 .i8) (ix2 ⟨384 * b.val + s.val, h⟩ k)
      = (m ((c : Thread nD τ).loc main_arg0) : Vec Ideal S2x384x16384 .i8) (ix3 b s k) := by
  show (V m c main_v8 : Vec Ideal S768x16384 .i8) ((win0_1.blk t).view.emb (ix2 ⟨384 * b.val + s.val, h⟩ k)) = _
  rw [show ((win0_1.blk t).view.emb (ix2 ⟨384 * b.val + s.val, h⟩ k) : S768x16384.Idx)
    = ix2 ⟨384 * b.val + s.val, h⟩ k from by blk_ext [idx1 t]]
  show (StableHlo.after hostOps0 (fun b => m (c, b)) (Proc.tc.devRef main_v8) : Vec Ideal S768x16384 .i8) _ = _
  unfold hostOps0
  entry_read
  show (shapeCast S768x16384 (m ((c : Thread nD τ).loc main_arg0) : Vec Ideal S2x384x16384 .i8) shapeCasts_S2x384x16384_S768x16384) _ = _
  exact flat _ b s k h

/-- The two zero points. -/
theorem blk_z0 (c : Dev nD) (t : Fin cfg0.N) :
    (iblk m c 0 t : Vec Ideal S2 .i32) (ix1 0) = (m ((c : Thread nD τ).loc main_arg1) : Vec Ideal S_ .i32) ix0 := by
  show (V m c main_v2 : Vec Ideal S2 .i32) ((win0_0.blk t).view.emb (ix1 0)) = _
  rw [show ((win0_0.blk t).view.emb (ix1 0) : S2.Idx) = ix1 0 from by blk_ext [idx0 t]]
  show (StableHlo.after hostOps0 (fun b => m (c, b)) (Proc.tc.devRef main_v2) : Vec Ideal S2 .i32) (ix1 0) = _
  unfold hostOps0
  entry_read
  pointwise
theorem blk_z1 (c : Dev nD) (t : Fin cfg0.N) :
    (iblk m c 0 t : Vec Ideal S2 .i32) (ix1 1) = (m ((c : Thread nD τ).loc main_arg7) : Vec Ideal S_ .i32) ix0 := by
  show (V m c main_v2 : Vec Ideal S2 .i32) ((win0_0.blk t).view.emb (ix1 1)) = _
  rw [show ((win0_0.blk t).view.emb (ix1 1) : S2.Idx) = ix1 1 from by blk_ext [idx0 t]]
  show (StableHlo.after hostOps0 (fun b => m (c, b)) (Proc.tc.devRef main_v2) : Vec Ideal S2 .i32) (ix1 1) = _
  unfold hostOps0
  entry_read
  pointwise

/-- The four rows of column parameters' block at point `t`: columns `512 t` onwards. -/
theorem blk_cols (c : Dev nD) (t : Fin cfg0.N) (n : Fin 512) (h : 512 * t.val + n.val < 3584) (i : Fin 4) :
    (iblk m c 3 t : Vec Ideal S4x512 .i32) (ix2 i n)
      = (V m c main_v7 : Vec Ideal S4x3584 .i32) (ix2 i ⟨512 * t.val + n.val, h⟩) := by
  blk_ext [iblk, idx3 t]

/-! The four vectors as rows, before they are put one below the other. -/

theorem pre3 (c : Dev nD) (n : Fin 3584) :
    (StableHlo.after (hostOps0.take 7) (fun b => m (c, b)) (Proc.tc.devRef main_v3) : Vec Ideal S1x3584 .i32) (ix2 0 n)
      = (m ((c : Thread nD τ).loc main_arg3) : Vec Ideal S3584 .i32) (ix1 n) := by
  unfold hostOps0
  simp only [List.take_succ_cons, List.take_zero]
  entry_read
  pointwise
theorem pre4 (c : Dev nD) (n : Fin 3584) :
    (StableHlo.after (hostOps0.take 7) (fun b => m (c, b)) (Proc.tc.devRef main_v4) : Vec Ideal S1x3584 .i32) (ix2 0 n)
      = (m ((c : Thread nD τ).loc main_arg4) : Vec Ideal S3584 .i32) (ix1 n) := by
  unfold hostOps0
  simp only [List.take_succ_cons, List.take_zero]
  entry_read
  pointwise
theorem pre5 (c : Dev nD) (n : Fin 3584) :
    (StableHlo.after (hostOps0.take 7) (fun b => m (c, b)) (Proc.tc.devRef main_v5) : Vec Ideal S1x3584 .i32) (ix2 0 n)
      = (m ((c : Thread nD τ).loc main_arg5) : Vec Ideal S3584 .i32) (ix1 n) := by
  unfold hostOps0
  simp only [List.take_succ_cons, List.take_zero]
  entry_read
  pointwise
theorem pre6 (c : Dev nD) (n : Fin 3584) :
    (StableHlo.after (hostOps0.take 7) (fun b => m (c, b)) (Proc.tc.devRef main_v6) : Vec Ideal S1x3584 .i32) (ix2 0 n)
      = (m ((c : Thread nD τ).loc main_arg6) : Vec Ideal S3584 .i32) (ix1 n) := by
  unfold hostOps0
  simp only [List.take_succ_cons, List.take_zero]
  entry_read
  pointwise

/-- The rows themselves: the four vectors one below the other. -/
theorem V7_eq (c : Dev nD) (σ : Valuation τ sig (Elt Ideal))
    (hσ : σ = StableHlo.after (hostOps0.take 7) (fun b => m (c, b))) :
    (V m c main_v7 : Vec Ideal S4x3584 .i32)
      = concatenate S4x3584 0 [⟨S1x3584, (σ (Proc.tc.devRef main_v3) : Vec Ideal S1x3584 .i32)⟩,
          ⟨S1x3584, (σ (Proc.tc.devRef main_v4) : Vec Ideal S1x3584 .i32)⟩,
          ⟨S1x3584, (σ (Proc.tc.devRef main_v5) : Vec Ideal S1x3584 .i32)⟩,
          ⟨S1x3584, (σ (Proc.tc.devRef main_v6) : Vec Ideal S1x3584 .i32)⟩]
          concatenates_S1x3584_S1x3584_S1x3584_S1x3584_S4x3584_d0 := by
  subst hσ
  have e : V m c main_v7 = StableHlo.after hostOps0 (fun b => m (c, b)) (Proc.tc.devRef main_v7) := rfl
  rw [e]
  unfold hostOps0
  simp only [List.take_succ_cons, List.take_zero, StableHlo.after_cons, StableHlo.after_nil]
  rw [StableHlo.reshape_result_ne, StableHlo.nary4_result]
  · rfl
  · decide

theorem rows (c : Dev nD) (n : Fin 3584) :
    (V m c main_v7 : Vec Ideal S4x3584 .i32) (ix2 0 n) = (m ((c : Thread nD τ).loc main_arg3) : Vec Ideal S3584 .i32) (ix1 n)
    ∧ (V m c main_v7 : Vec Ideal S4x3584 .i32) (ix2 1 n) = (m ((c : Thread nD τ).loc main_arg4) : Vec Ideal S3584 .i32) (ix1 n)
    ∧ (V m c main_v7 : Vec Ideal S4x3584 .i32) (ix2 2 n) = (m ((c : Thread nD τ).loc main_arg5) : Vec Ideal S3584 .i32) (ix1 n)
    ∧ (V m c main_v7 : Vec Ideal S4x3584 .i32) (ix2 3 n) = (m ((c : Thread nD τ).loc main_arg6) : Vec Ideal S3584 .i32) (ix1 n) := by
  rw [← pre3 m c n, ← pre4 m c n, ← pre5 m c n, ← pre6 m c n, V7_eq m c _ rfl]
  generalize StableHlo.after (hostOps0.take 7) (fun b => m (c, b)) = σ
  refine ⟨?_, ?_, ?_, ?_⟩ <;> pointwise

/-- The result of the arrays that the kernel was launched on. -/
def res (c : Dev nD) (b : Fin 2) (s : Fin 384) (n : Fin 3584) : BitVec 8 :=
  Spec.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b s n

/-- What the kernel writes at point `t`: the result at columns `512 t` onwards. -/
theorem outAt_apply (c : Dev nD) (hm : ∀ n, 0 ≤ ((m ((c : Thread nD τ).loc main_arg5) : Vec Ideal S3584 .i32) (ix1 n) : BitVec 32).toInt)
    (t : Fin cfg0.N) (b : Fin 2) (s : Fin 384) (n : Fin 512) (h : 384 * b.val + s.val < 768) (h' : 512 * t.val + n.val < 3584) :
    outAt m c t (ix2 ⟨384 * b.val + s.val, h⟩ n) = res m c b s ⟨512 * t.val + n.val, h'⟩ := by
  unfold outAt
  rw [OUT_apply]
  obtain ⟨r3, r4, r5, r6⟩ := rows m c ⟨512 * t.val + n.val, h'⟩
  have ex (k : ℕ) : xv (XW m c) ⟨384 * b.val + s.val, h⟩ k = Spec.X (m ((c : Thread nD τ).loc main_arg0)) b s k - 128 :=
    congrArg (fun z : BitVec 8 => (z.toNat : ℤ) - 128) (blk_x m c t0_0 b s ⟨k % 16384, Nat.mod_lt _ (by norm_num)⟩ h)
  have ew (k : ℕ) : wv (iblk m c 2 t) k n = Spec.W (m ((c : Thread nD τ).loc main_arg2)) k ⟨512 * t.val + n.val, h'⟩ - 8 :=
    congrArg (fun z : BitVec 8 => nib z k - 8) (blk_w m c t ⟨(k / 2) % 8192, Nat.mod_lt _ (by norm_num)⟩ n h')
  unfold kAcc
  rw [blk_z0, blk_z1, blk_cols m c t n h', blk_cols m c t n h', blk_cols m c t n h', blk_cols m c t n h', r3, r4, r5, r6,
    Words.kRound_eq_rRound, Words.kScale_eq_rScale _ _ (hm _)]
  simp only [ex, ew]
  rw [Spec.acc_shift]
  rfl

/-- The output array after the last point, row by row. -/
def G (c : Dev nD) : Vec Ideal S768x3584 .i8 := fun i =>
  res m c ⟨(i 0).val / 384, by have := (i 0).isLt; simp at this; omega⟩ ⟨(i 0).val % 384, Nat.mod_lt _ (by norm_num)⟩ (i 1)

theorem arr (c : Dev nD) (hm : ∀ n, 0 ≤ ((m ((c : Thread nD τ).loc main_arg5) : Vec Ideal S3584 .i32) (ix1 n) : BitVec 32).toInt) :
    (dats m 0 c).arrAt 4 (cfgs 0).N = G m c := by
  refine (dats m 0 c).arrAt_eq_of_covers 4 _ (by decide +kernel) fun t hf y => ?_
  blk_simp
  rw [after0_4]
  have ht : t.val < 7 := t.isLt
  have key : ∀ (r : Fin 768) (n : Fin 512), outAt m c t (ix2 r n) = G m c ((win0_4.blk t).view.emb (ix2 r n)) := by
    intro r n
    have h' : 512 * t.val + n.val < 3584 := by omega
    have e : ((win0_4.blk t).view.emb (ix2 r n) : S768x3584.Idx) = ix2 r ⟨512 * t.val + n.val, h'⟩ := by
      blk_ext [idx4 t]
    rw [e]
    have hr : r = ⟨384 * (r.val / 384) + r.val % 384, by omega⟩ := Fin.ext (by simp only []; omega)
    have hb : r.val / 384 < 2 := by omega
    exact (congrArg (fun q => outAt m c t (ix2 q n)) hr).trans
      (outAt_apply m c hm t ⟨r.val / 384, hb⟩ ⟨r.val % 384, Nat.mod_lt _ (by norm_num)⟩ n (by simp only []; omega) h')
  have hy : (y : S768x512.Idx) = ix2 (y 0) (y 1) := eq_ix2 _
  rw [hy]
  exact key _ _

theorem out_tail (c : Dev nD) (hm : ∀ n, 0 ≤ ((m ((c : Thread nD τ).loc main_arg5) : Vec Ideal S3584 .i32) (ix1 n) : BitVec 32).toInt) :
    Pipeline.afterTail₀ cfgs (dats m) 0 (V0 m) [hostOps1] c main_v10
      = (fun i : S2x384x3584.Idx => res m c (i 0) (i 1) (i 2)) := by
  unfold Pipeline.afterTail₀
  have e := Pipeline.withArrays_arr spec0 (by decide) c (V0 m c) (fun w => (dats m 0 c).arrAt w (cfgs 0).N) 4
  show StableHlo.after hostOps1 _ (Proc.devRef .tc main_v10) = _
  unfold hostOps1
  simp only [StableHlo.after_cons, StableHlo.after_nil]
  rw [StableHlo.reshape_result]
  have e' := e.trans (arr m c hm)
  show (shapeCast S2x384x3584 (Pipeline.withArrays spec0 c (V0 m c) (fun w => (dats m 0 c).arrAt w (cfgs 0).N) (Proc.devRef .tc (Pipeline.arrRef spec0 4)) : Vec Ideal S768x3584 .i8) shapeCasts_S768x3584_S2x384x3584) = _
  rw [e']
  funext i
  have hi : i = ix3 (i 0) (i 1) (i 2) := eq_ix3 i
  have hb : (i 0).val < 2 := (i 0).isLt
  have hs : (i 1).val < 384 := (i 1).isLt
  have h : 384 * (i 0).val + (i 1).val < 768 := by omega
  refine (congrArg _ hi).trans ((unflat (G m c) (i 0) (i 1) (i 2) h).trans ?_)
  show res m c _ _ _ = _
  congr 1
  · exact Fin.ext (by show (384 * (i 0).val + (i 1).val) / 384 = (i 0).val; omega)
  · exact Fin.ext (by show (384 * (i 0).val + (i 1).val) % 384 = (i 1).val; omega)

/-- The kernel's run: the result array, and the arguments as launched. -/
theorem run_value (ρ : Dev nD → PrngReg)
    (hm : ∀ (c : Dev nD) (n : Fin 3584), 0 ≤ ((m ((c : Thread nD τ).loc main_arg5) : Vec Ideal S3584 .i32) (ix1 n) : BitVec 32).toInt) :
    θ_run defs (onTc (τ := τ) (main (F := Ideal))) ⟨m, fun _ => 0, ρ⟩ (fun r => ∀ c : Dev nD,
      r.2.mem ((c.tc : Thread nD τ).loc main_v10) = (fun i : S2x384x3584.Idx => res m c (i 0) (i 1) (i 2))) :=
  (θ_run defs _ _).mono (fun _ h c => ((h c).2 main_v10 (Pipeline.mem_restRefs_of main_v10 (by decide) (by decide))).trans (out_tail m c (hm c)))
    (run_main m ρ)

end Cert.KernelIdeal.Value
-- ==== Proof.RefSum.lean ====
/-
  The reference's sums of words: a fold of additions of 32-bit words over an axis is the word of the sum over that axis.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 8192

noncomputable section

namespace Cert.ReferenceIdeal.Value

open Idealize.ShloMosaic Idealize.ShloMosaic.TcCoe Idealize.ShloMosaic.Tactic
open Cert.ReferenceIdeal Cert.ReferenceIdeal.Gen

/-- Words added up from zero: the word of the integers' sum. -/
theorem fold_ofInt {ι : Type} [DecidableEq ι] (s : Finset ι) (f : ι → BitVec 32) (g : ι → ℤ) (h : ∀ i, f i = BitVec.ofInt 32 (g i)) :
    s.fold IntOp.addi 0#32 f = BitVec.ofInt 32 (∑ i ∈ s, g i) := by
  induction s using Finset.induction_on with
  | empty => rfl
  | insert a s ha ih =>
    rw [Finset.fold_insert ha, Finset.sum_insert ha, ih, h a, BitVec.ofInt_add]; rfl

/-- A sum over the third of four axes. -/
theorem reduce4 (f : Vec Ideal S2x384x8192x3584 .i32) (g : S2x384x8192x3584.Idx → ℤ) (hf : ∀ i, f i = BitVec.ofInt 32 (g i))
    (b : Fin 2) (s : Fin 384) (n : Fin 3584) :
    Host.reduce IntOp.addi f (constantI S_ 32 0#32) reducesTo_S2x384x8192x3584_S2x384x3584_d2 h_S_ (ix3 b s n)
      = BitVec.ofInt 32 (∑ k : Fin 8192, g (ix4 b s k n)) := by
  rw [Host.reduce_eq_fold]
  refine (fold_ofInt _ f g hf).trans (congrArg (BitVec.ofInt 32) ?_)
  have e : (Finset.univ.filter fun i => reducesTo_S2x384x8192x3584_S2x384x3584_d2.drop i = ix3 b s n)
      = Finset.univ.map ⟨fun k : Fin 8192 => (ix4 b s k n : S2x384x8192x3584.Idx), fun p q hpq => congrFun hpq 2⟩ := by
    ext i
    simp only [Finset.mem_filter, Finset.mem_univ, true_and, Finset.mem_map, Function.Embedding.coeFn_mk]
    constructor
    · intro h
      have h0 : (i 0).val = b.val := (Shape.ReducesTo.drop_apply_val_of_eq reducesTo_S2x384x8192x3584_S2x384x3584_d2 i 0 0).symm.trans (congrArg Fin.val (congrFun h 0))
      have h1 : (i 1).val = s.val := (Shape.ReducesTo.drop_apply_val_of_eq reducesTo_S2x384x8192x3584_S2x384x3584_d2 i 1 1).symm.trans (congrArg Fin.val (congrFun h 1))
      have h2 : (i 3).val = n.val := (Shape.ReducesTo.drop_apply_val_of_eq reducesTo_S2x384x8192x3584_S2x384x3584_d2 i 2 3).symm.trans (congrArg Fin.val (congrFun h 2))
      refine ⟨i 2, ?_⟩
      funext a
      match a with
      | ⟨0, _⟩ => exact Fin.ext h0.symm
      | ⟨1, _⟩ => exact Fin.ext h1.symm
      | ⟨2, _⟩ => rfl
      | ⟨3, _⟩ => exact Fin.ext h2.symm
    · rintro ⟨k, rfl⟩
      funext a
      match a with
      | ⟨0, _⟩ => exact Fin.ext (Shape.ReducesTo.drop_apply_val_of_eq reducesTo_S2x384x8192x3584_S2x384x3584_d2 _ 0 0)
      | ⟨1, _⟩ => exact Fin.ext (Shape.ReducesTo.drop_apply_val_of_eq reducesTo_S2x384x8192x3584_S2x384x3584_d2 _ 1 1)
      | ⟨2, _⟩ => exact Fin.ext (Shape.ReducesTo.drop_apply_val_of_eq reducesTo_S2x384x8192x3584_S2x384x3584_d2 _ 2 3)
  rw [e, Finset.sum_map]
  rfl

/-- A sum over the last of three axes. -/
theorem reduce3 (f : Vec Ideal S2x384x16384 .i32) (g : S2x384x16384.Idx → ℤ) (hf : ∀ i, f i = BitVec.ofInt 32 (g i))
    (b : Fin 2) (s : Fin 384) :
    Host.reduce IntOp.addi f (constantI S_ 32 0#32) reducesTo_S2x384x16384_S2x384_d2 h_S_ (ix2 b s)
      = BitVec.ofInt 32 (∑ k : Fin 16384, g (ix3 b s k)) := by
  rw [Host.reduce_eq_fold]
  refine (fold_ofInt _ f g hf).trans (congrArg (BitVec.ofInt 32) ?_)
  have e : (Finset.univ.filter fun i => reducesTo_S2x384x16384_S2x384_d2.drop i = ix2 b s)
      = Finset.univ.map ⟨fun k : Fin 16384 => (ix3 b s k : S2x384x16384.Idx), fun p q hpq => congrFun hpq 2⟩ := by
    ext i
    simp only [Finset.mem_filter, Finset.mem_univ, true_and, Finset.mem_map, Function.Embedding.coeFn_mk]
    constructor
    · intro h
      have h0 : (i 0).val = b.val := (Shape.ReducesTo.drop_apply_val_of_eq reducesTo_S2x384x16384_S2x384_d2 i 0 0).symm.trans (congrArg Fin.val (congrFun h 0))
      have h1 : (i 1).val = s.val := (Shape.ReducesTo.drop_apply_val_of_eq reducesTo_S2x384x16384_S2x384_d2 i 1 1).symm.trans (congrArg Fin.val (congrFun h 1))
      refine ⟨i 2, ?_⟩
      funext a
      match a with
      | ⟨0, _⟩ => exact Fin.ext h0.symm
      | ⟨1, _⟩ => exact Fin.ext h1.symm
      | ⟨2, _⟩ => rfl
    · rintro ⟨k, rfl⟩
      funext a
      match a with
      | ⟨0, _⟩ => exact Fin.ext (Shape.ReducesTo.drop_apply_val_of_eq reducesTo_S2x384x16384_S2x384_d2 _ 0 0)
      | ⟨1, _⟩ => exact Fin.ext (Shape.ReducesTo.drop_apply_val_of_eq reducesTo_S2x384x16384_S2x384_d2 _ 1 1)
  rw [e, Finset.sum_map]
  rfl

/-- A sum over the first of two axes. -/
theorem reduce2 (f : Vec Ideal S8192x3584 .i32) (g : S8192x3584.Idx → ℤ) (hf : ∀ i, f i = BitVec.ofInt 32 (g i)) (n : Fin 3584) :
    Host.reduce IntOp.addi f (constantI S_ 32 0#32) reducesTo_S8192x3584_S3584_d0 h_S_ (ix1 n)
      = BitVec.ofInt 32 (∑ k : Fin 8192, g (ix2 k n)) := by
  rw [Host.reduce_eq_fold]
  refine (fold_ofInt _ f g hf).trans (congrArg (BitVec.ofInt 32) ?_)
  have e : (Finset.univ.filter fun i => reducesTo_S8192x3584_S3584_d0.drop i = ix1 n)
      = Finset.univ.map ⟨fun k : Fin 8192 => (ix2 k n : S8192x3584.Idx), fun p q hpq => congrFun hpq 0⟩ := by
    ext i
    simp only [Finset.mem_filter, Finset.mem_univ, true_and, Finset.mem_map, Function.Embedding.coeFn_mk]
    constructor
    · intro h
      have h0 : (i 1).val = n.val := (Shape.ReducesTo.drop_apply_val_of_eq reducesTo_S8192x3584_S3584_d0 i 0 1).symm.trans (congrArg Fin.val (congrFun h 0))
      refine ⟨i 0, ?_⟩
      funext a
      match a with
      | ⟨0, _⟩ => rfl
      | ⟨1, _⟩ => exact Fin.ext h0.symm
    · rintro ⟨k, rfl⟩
      funext a
      match a with
      | ⟨0, _⟩ => exact Fin.ext (Shape.ReducesTo.drop_apply_val_of_eq reducesTo_S8192x3584_S3584_d0 _ 0 1)
  rw [e, Finset.sum_map]
  rfl

/-- A sum over twice as many numbers, the even and the odd ones apart. -/
theorem even_odd (f : ℕ → ℤ) (n : ℕ) :
    ∑ k ∈ Finset.range (2 * n), f k = ∑ k ∈ Finset.range n, f (2 * k) + ∑ k ∈ Finset.range n, f (2 * k + 1) := by
  induction n with
  | zero => rfl
  | succ n ih =>
    rw [show 2 * (n + 1) = 2 * n + 1 + 1 from rfl, Finset.sum_range_succ, Finset.sum_range_succ, ih, Finset.sum_range_succ,
      Finset.sum_range_succ]
    ring

/-- A byte as a word. -/
theorem ext_ofInt (b : BitVec 8) : b.setWidth 32 = BitVec.ofInt 32 (b.toNat : ℤ) := by
  revert b; decide +kernel
/-- A byte's low half as a word. -/
theorem lo_ofInt (b : BitVec 8) : IntOp.andi (b.setWidth 32) 15#32 = BitVec.ofInt 32 ((b.toNat : ℤ) % 16) := by
  revert b; decide +kernel
/-- A byte's high half as a word. -/
theorem hi_ofInt (b : BitVec 8) : IntOp.shrsi .host (b.setWidth 32) 4#32 = BitVec.ofInt 32 ((b.toNat : ℤ) / 16) := by
  revert b; decide +kernel

variable (V0 : Valuation τ sig (Elt Ideal))

/-- The bytes, the packed weights. -/
abbrev xs : Vec Ideal S2x384x16384 .i8 := V0 (Proc.devRef .tc main_arg0)
abbrev ws : Vec Ideal S8192x3584 .i8 := V0 (Proc.devRef .tc main_arg2)

theorem v0 (b : Fin 2) (s : Fin 384) (k : Fin 16384) :
    (res_main_v0 V0 : Vec Ideal S2x384x16384 .i32) (ix3 b s k) = BitVec.ofInt 32 (Spec.X (xs V0) b s k) := by
  have e : (res_main_v0 V0 : Vec Ideal S2x384x16384 .i32) (ix3 b s k) = ((xs V0 (ix3 b s k) : BitVec 8).setWidth 32) := by
    unfold res_main_v0 xs
    clean_types
    pointwise
  rw [e, ext_ofInt]
  unfold Spec.X
  have hk : (⟨k.val % 16384, Nat.mod_lt _ (by norm_num)⟩ : Fin 16384) = k := Fin.ext (Nat.mod_eq_of_lt k.isLt)
  rw [hk]

theorem v3 (k : Fin 8192) (n : Fin 3584) :
    (res_main_v3 V0 : Vec Ideal S8192x3584 .i32) (ix2 k n) = BitVec.ofInt 32 (Spec.W (ws V0) (2 * k) n) := by
  have e : (res_main_v3 V0 : Vec Ideal S8192x3584 .i32) (ix2 k n) = IntOp.andi ((ws V0 (ix2 k n) : BitVec 8).setWidth 32) 15#32 := by
    unfold res_main_v3 res_main_v1 ws
    clean_types
    pointwise
  rw [e, lo_ofInt]
  have hk : (⟨(2 * k.val) / 2 % 8192, Nat.mod_lt _ (by norm_num)⟩ : Fin 8192) = k := Fin.ext (by have := k.isLt; simp only []; omega)
  unfold Spec.W KernelIdeal.Value.nib
  rw [hk, if_pos (by omega)]

theorem v5 (k : Fin 8192) (n : Fin 3584) :
    (res_main_v5 V0 : Vec Ideal S8192x3584 .i32) (ix2 k n) = BitVec.ofInt 32 (Spec.W (ws V0) (2 * k + 1) n) := by
  have e : (res_main_v5 V0 : Vec Ideal S8192x3584 .i32) (ix2 k n) = IntOp.shrsi .host ((ws V0 (ix2 k n) : BitVec 8).setWidth 32) 4#32 := by
    unfold res_main_v5 res_main_v1 ws
    clean_types
    pointwise
  rw [e, hi_ofInt]
  have hk : (⟨(2 * k.val + 1) / 2 % 8192, Nat.mod_lt _ (by norm_num)⟩ : Fin 8192) = k := Fin.ext (by have := k.isLt; simp only []; omega)
  unfold Spec.W KernelIdeal.Value.nib
  rw [hk, if_neg (by omega)]

/-- The even (`p = 0`) and the odd columns of the bytes. -/
theorem slice0 (x : Vec Ideal S2x384x16384 .i32) (b : Fin 2) (s : Fin 384) (k : Fin 8192) :
    Host.slice S2x384x8192 ![0, 0, 0] ![1, 1, 2] x slicesBy_S2x384x16384_S2x384x8192_0s1_0s1_0s2 (ix3 b s k)
      = x (ix3 b s ⟨2 * k.val, by omega⟩) := by
  unfold Host.slice
  refine congrArg x ?_
  funext a
  match a with
  | ⟨0, _⟩ => exact Fin.ext (by simp)
  | ⟨1, _⟩ => exact Fin.ext (by simp)
  | ⟨2, _⟩ => exact Fin.ext (by simp)
theorem slice1 (x : Vec Ideal S2x384x16384 .i32) (b : Fin 2) (s : Fin 384) (k : Fin 8192) :
    Host.slice S2x384x8192 ![0, 0, 1] ![1, 1, 2] x slicesBy_S2x384x16384_S2x384x8192_0s1_0s1_1s2 (ix3 b s k)
      = x (ix3 b s ⟨2 * k.val + 1, by omega⟩) := by
  unfold Host.slice
  refine congrArg x ?_
  funext a
  match a with
  | ⟨0, _⟩ => exact Fin.ext (by simp)
  | ⟨1, _⟩ => exact Fin.ext (by simp)
  | ⟨2, _⟩ => exact Fin.ext (by simp [Nat.add_comm])

end Cert.ReferenceIdeal.Value
-- ==== Proof.RefScale.lean ====
/-
  The reference's integer arithmetic after the accumulator, read at one element.
-/
module

public import proofs.«01_k».proof.Proof.Gen.ReferenceIdeal.Run
public import proofs.«01_k».proof.Proof.Words
public import Idealize.ShloMosaic.Lib.Pointwise
public import Idealize.ShloMosaic.Lib.Tactic.CleanTypes

@[expose] public section

set_option maxRecDepth 8192

noncomputable section

namespace Cert.ReferenceIdeal.Value

open Idealize.ShloMosaic Idealize.ShloMosaic.TcCoe Idealize.ShloMosaic.Tactic
open Cert.ReferenceIdeal Cert.ReferenceIdeal.Gen

variable (V0 : Valuation τ sig (Elt Ideal)) (b : Fin 2) (s : Fin 384) (n : Fin 3584)

theorem v46 : (res_main_v46 V0 : Vec Ideal S2x384x3584 .i1) (ix3 b s n)
    = IntOp.cmpi .sge ((res_main_v44 V0 : Vec Ideal S2x384x3584 .i32) (ix3 b s n)) 0#32 := by
  unfold res_main_v46
  generalize res_main_v44 V0 = a44
  clean_types
  pointwise

theorem id_absi {s : Shape} (a : IVec s 32) (i : s.Idx) : id (absi a) i = IntOp.absi (a i) := by
  rw [id_eq, absi_apply]

theorem v48 : (res_main_v48 V0 : Vec Ideal S2x384x3584 .i32) (ix3 b s n)
    = IntOp.absi ((res_main_v44 V0 : Vec Ideal S2x384x3584 .i32) (ix3 b s n)) := by
  have e (a : IVec S2x384x3584 32) (h : (res_main_v44 V0 : Vec Ideal S2x384x3584 .i32) = a) :
      (res_main_v48 V0 : Vec Ideal S2x384x3584 .i32) = id (absi a) := by
    subst h; unfold res_main_v48; exact Eq.refl _
  exact (congrFun (e _ rfl) _).trans (id_absi _ _)

theorem v49 : (res_main_v49 V0 : Vec Ideal S3584 .i32) (ix1 n)
    = (V0 (Proc.devRef .tc main_arg5) : Vec Ideal S3584 .i32) (ix1 n) := rfl

theorem v52 : (res_main_v52 V0 : Vec Ideal S2x384x3584 .i32) (ix3 b s n)
    = IntOp.shrui .host ((res_main_v48 V0 : Vec Ideal S2x384x3584 .i32) (ix3 b s n)) 16#32 := by
  unfold res_main_v52
  generalize res_main_v48 V0 = a48
  clean_types
  pointwise

theorem v54 : (res_main_v54 V0 : Vec Ideal S2x384x3584 .i32) (ix3 b s n)
    = IntOp.andi ((res_main_v48 V0 : Vec Ideal S2x384x3584 .i32) (ix3 b s n)) 65535#32 := by
  unfold res_main_v54
  generalize res_main_v48 V0 = a48
  clean_types
  pointwise

theorem v56 : (res_main_v56 V0 : Vec Ideal S3584 .i32) (ix1 n)
    = IntOp.shrui .host ((res_main_v49 V0 : Vec Ideal S3584 .i32) (ix1 n)) 16#32 := by
  unfold res_main_v56
  generalize res_main_v49 V0 = a49
  clean_types
  pointwise

theorem v58 : (res_main_v58 V0 : Vec Ideal S3584 .i32) (ix1 n)
    = IntOp.andi ((res_main_v49 V0 : Vec Ideal S3584 .i32) (ix1 n)) 65535#32 := by
  unfold res_main_v58
  generalize res_main_v49 V0 = a49
  clean_types
  pointwise

theorem v61 : (res_main_v61 V0 : Vec Ideal S2x384x3584 .i32) (ix3 b s n)
    = IntOp.muli ((res_main_v54 V0 : Vec Ideal S2x384x3584 .i32) (ix3 b s n)) ((res_main_v58 V0 : Vec Ideal S3584 .i32) (ix1 n)) := by
  unfold res_main_v61
  generalize res_main_v54 V0 = a54
  generalize res_main_v58 V0 = a58
  clean_types
  pointwise

theorem v68 : (res_main_v68 V0 : Vec Ideal S2x384x3584 .i32) (ix3 b s n)
    = IntOp.addi (IntOp.muli ((res_main_v52 V0 : Vec Ideal S2x384x3584 .i32) (ix3 b s n)) ((res_main_v58 V0 : Vec Ideal S3584 .i32) (ix1 n))) (IntOp.muli ((res_main_v54 V0 : Vec Ideal S2x384x3584 .i32) (ix3 b s n)) ((res_main_v56 V0 : Vec Ideal S3584 .i32) (ix1 n))) := by
  unfold res_main_v68
  generalize res_main_v52 V0 = a52
  generalize res_main_v58 V0 = a58
  generalize res_main_v54 V0 = a54
  generalize res_main_v56 V0 = a56
  clean_types
  pointwise

theorem v76 : (res_main_v76 V0 : Vec Ideal S2x384x3584 .i32) (ix3 b s n)
    = IntOp.addi (IntOp.shrui .host ((res_main_v61 V0 : Vec Ideal S2x384x3584 .i32) (ix3 b s n)) 16#32) (IntOp.andi ((res_main_v68 V0 : Vec Ideal S2x384x3584 .i32) (ix3 b s n)) 65535#32) := by
  unfold res_main_v76
  generalize res_main_v61 V0 = a61
  generalize res_main_v68 V0 = a68
  clean_types
  pointwise

theorem v83 : (res_main_v83 V0 : Vec Ideal S2x384x3584 .i32) (ix3 b s n)
    = IntOp.ori (IntOp.shli .host (IntOp.andi ((res_main_v76 V0 : Vec Ideal S2x384x3584 .i32) (ix3 b s n)) 65535#32) 16#32) (IntOp.andi ((res_main_v61 V0 : Vec Ideal S2x384x3584 .i32) (ix3 b s n)) 65535#32) := by
  unfold res_main_v83
  generalize res_main_v76 V0 = a76
  generalize res_main_v61 V0 = a61
  clean_types
  pointwise

theorem v90 : (res_main_v90 V0 : Vec Ideal S2x384x3584 .i32) (ix3 b s n)
    = IntOp.addi ((res_main_v83 V0 : Vec Ideal S2x384x3584 .i32) (ix3 b s n)) (Scalar.select ((res_main_v46 V0 : Vec Ideal S2x384x3584 .i1) (ix3 b s n)) 1073741824#32 1073741823#32) := by
  unfold res_main_v90
  generalize res_main_v83 V0 = a83
  generalize res_main_v46 V0 = a46
  clean_types
  pointwise

theorem v99 : (res_main_v99 V0 : Vec Ideal S2x384x3584 .i32) (ix3 b s n)
    = IntOp.ori (IntOp.shli .host (IntOp.addi (IntOp.addi (IntOp.addi (IntOp.muli ((res_main_v52 V0 : Vec Ideal S2x384x3584 .i32) (ix3 b s n)) ((res_main_v56 V0 : Vec Ideal S3584 .i32) (ix1 n))) (IntOp.shrui .host ((res_main_v68 V0 : Vec Ideal S2x384x3584 .i32) (ix3 b s n)) 16#32)) (IntOp.shrui .host ((res_main_v76 V0 : Vec Ideal S2x384x3584 .i32) (ix3 b s n)) 16#32)) ((IntOp.cmpi .ult ((res_main_v90 V0 : Vec Ideal S2x384x3584 .i32) (ix3 b s n)) ((res_main_v83 V0 : Vec Ideal S2x384x3584 .i32) (ix3 b s n))).setWidth 32)) 1#32) (IntOp.shrui .host ((res_main_v90 V0 : Vec Ideal S2x384x3584 .i32) (ix3 b s n)) 31#32) := by
  unfold res_main_v99
  generalize res_main_v52 V0 = a52
  generalize res_main_v56 V0 = a56
  generalize res_main_v68 V0 = a68
  generalize res_main_v76 V0 = a76
  generalize res_main_v90 V0 = a90
  generalize res_main_v83 V0 = a83
  clean_types
  simp only [id_eq]
  pointwise

theorem v101 (r : BitVec 32) (hr : (res_main_v99 V0 : Vec Ideal S2x384x3584 .i32) (ix3 b s n) = r) :
    (res_main_v101 V0 : Vec Ideal S2x384x3584 .i32) (ix3 b s n)
      = Scalar.select ((res_main_v46 V0 : Vec Ideal S2x384x3584 .i1) (ix3 b s n)) r (-r) := by
  subst hr
  unfold res_main_v101
  generalize res_main_v46 V0 = a46
  generalize res_main_v99 V0 = a99
  clean_types
  pointwise

theorem v105 : (res_main_v105 V0 : Vec Ideal S3584 .i32) (ix1 n)
    = IntOp.subi (IntOp.shli .host 1#32 ((V0 (Proc.devRef .tc main_arg6) : Vec Ideal S3584 .i32) (ix1 n))) 1#32 := by
  unfold res_main_v105
  clean_types
  pointwise

/-- The scaled accumulator at an element. -/
theorem scaled : (res_main_v101 V0 : Vec Ideal S2x384x3584 .i32) (ix3 b s n)
    = Words.rScale ((res_main_v44 V0 : Vec Ideal S2x384x3584 .i32) (ix3 b s n)) ((V0 (Proc.devRef .tc main_arg5) : Vec Ideal S3584 .i32) (ix1 n)) := by
  rw [v101 V0 b s n _ rfl, v99, v90, v83, v76, v68, v61, v52, v54, v56, v58, v48, v49, v46]
  generalize (res_main_v44 V0 : Vec Ideal S2x384x3584 .i32) (ix3 b s n) = a
  generalize (V0 (Proc.devRef .tc main_arg5) : Vec Ideal S3584 .i32) (ix1 n) = q
  rfl

end Cert.ReferenceIdeal.Value
-- ==== Proof.RefValue.lean ====
/-
  The reference's run in closed form: its accumulator and its result array, element by element.
-/
module

public import proofs.«01_k».proof.Proof.RefSum
public import proofs.«01_k».proof.Proof.RefScale
public import Idealize.ShloMosaic.Lib.Claim

@[expose] public section

set_option maxRecDepth 8192

noncomputable section

namespace Cert.ReferenceIdeal.Value

open Idealize.ShloMosaic Idealize.ShloMosaic.TcCoe Idealize.ShloMosaic.Tactic
open Idealize.SL.Sem
open Cert.ReferenceIdeal Cert.ReferenceIdeal.Gen

/-- The products of the even columns of the bytes with the low halves of the packed weights. -/
def prod0 (x : Vec Ideal S2x384x16384 .i32) (w : Vec Ideal S8192x3584 .i32) : Vec Ideal S2x384x8192x3584 .i32 :=
  muli (broadcastInDim S2x384x8192x3584 ![0, 1, 2, 3] bcast_S2x384x8192x1_S2x384x8192x3584_0_1_2_3
      (broadcastInDim S2x384x8192x1 ![0, 1, 2] bcast_S2x384x8192_S2x384x8192x1_0_1_2
        (Host.slice S2x384x8192 ![0, 0, 0] ![1, 1, 2] x slicesBy_S2x384x16384_S2x384x8192_0s1_0s1_0s2)))
    (broadcastInDim S2x384x8192x3584 ![0, 1, 2, 3] bcast_S1x1x8192x3584_S2x384x8192x3584_0_1_2_3
      (broadcastInDim S1x1x8192x3584 ![2, 3] bcast_S8192x3584_S1x1x8192x3584_2_3 w))
/-- The products of the odd columns of the bytes with the high halves. -/
def prod1 (x : Vec Ideal S2x384x16384 .i32) (w : Vec Ideal S8192x3584 .i32) : Vec Ideal S2x384x8192x3584 .i32 :=
  muli (broadcastInDim S2x384x8192x3584 ![0, 1, 2, 3] bcast_S2x384x8192x1_S2x384x8192x3584_0_1_2_3
      (broadcastInDim S2x384x8192x1 ![0, 1, 2] bcast_S2x384x8192_S2x384x8192x1_0_1_2
        (Host.slice S2x384x8192 ![0, 0, 1] ![1, 1, 2] x slicesBy_S2x384x16384_S2x384x8192_0s1_0s1_1s2)))
    (broadcastInDim S2x384x8192x3584 ![0, 1, 2, 3] bcast_S1x1x8192x3584_S2x384x8192x3584_0_1_2_3
      (broadcastInDim S1x1x8192x3584 ![2, 3] bcast_S8192x3584_S1x1x8192x3584_2_3 w))

theorem prod0_apply (x : Vec Ideal S2x384x16384 .i32) (w : Vec Ideal S8192x3584 .i32) (b : Fin 2) (s : Fin 384) (k : Fin 8192)
    (n : Fin 3584) : prod0 x w (ix4 b s k n) = IntOp.muli (x (ix3 b s ⟨2 * k.val, by omega⟩)) (w (ix2 k n)) := by
  rw [← slice0 x b s k]
  unfold prod0
  generalize Host.slice S2x384x8192 ![0, 0, 0] ![1, 1, 2] x slicesBy_S2x384x16384_S2x384x8192_0s1_0s1_0s2 = y
  pointwise
theorem prod1_apply (x : Vec Ideal S2x384x16384 .i32) (w : Vec Ideal S8192x3584 .i32) (b : Fin 2) (s : Fin 384) (k : Fin 8192)
    (n : Fin 3584) : prod1 x w (ix4 b s k n) = IntOp.muli (x (ix3 b s ⟨2 * k.val + 1, by omega⟩)) (w (ix2 k n)) := by
  rw [← slice1 x b s k]
  unfold prod1
  generalize Host.slice S2x384x8192 ![0, 0, 1] ![1, 1, 2] x slicesBy_S2x384x16384_S2x384x8192_0s1_0s1_1s2 = y
  pointwise

/-- The accumulator from its five sums. -/
def combine (D0 D1 : Vec Ideal S2x384x3584 .i32) (R : Vec Ideal S2x384 .i32) (C0 C1 : Vec Ideal S3584 .i32)
    (za : Vec Ideal S_ .i32) (zb bias : Vec Ideal S3584 .i32) : Vec Ideal S2x384x3584 .i32 :=
  addi (addi (subi (subi (addi D0 D1)
      (muli (broadcastInDim S2x384x3584 ![0, 1, 2] bcast_S1x1x3584_S2x384x3584_0_1_2 (broadcastInDim S1x1x3584 ![2] bcast_S3584_S1x1x3584_2 zb))
        (broadcastInDim S2x384x3584 ![0, 1, 2] bcast_S2x384x1_S2x384x3584_0_1_2 (broadcastInDim S2x384x1 ![0, 1] bcast_S2x384_S2x384x1_0_1 R))))
      (broadcastInDim S2x384x3584 ![0, 1, 2] bcast_S1x1x3584_S2x384x3584_0_1_2 (broadcastInDim S1x1x3584 ![2] bcast_S3584_S1x1x3584_2
        (muli (broadcastInDim S3584 ![] bcast_S_S3584 za) (addi C0 C1)))))
      (broadcastInDim S2x384x3584 ![0, 1, 2] bcast_S1x1x3584_S2x384x3584_0_1_2 (broadcastInDim S1x1x3584 ![2] bcast_S3584_S1x1x3584_2
        (muli (broadcastInDim S3584 ![] bcast_S_S3584 (muli (constantI S_ 32 16384#32) za)) zb))))
    (broadcastInDim S2x384x3584 ![0, 1, 2] bcast_S1x1x3584_S2x384x3584_0_1_2 (broadcastInDim S1x1x3584 ![2] bcast_S3584_S1x1x3584_2 bias))

theorem combine_apply (D0 D1 : Vec Ideal S2x384x3584 .i32) (R : Vec Ideal S2x384 .i32) (C0 C1 : Vec Ideal S3584 .i32)
    (za : Vec Ideal S_ .i32) (zb bias : Vec Ideal S3584 .i32) (b : Fin 2) (s : Fin 384) (n : Fin 3584) :
    combine D0 D1 R C0 C1 za zb bias (ix3 b s n)
      = IntOp.addi (IntOp.addi (IntOp.subi (IntOp.subi (IntOp.addi (D0 (ix3 b s n)) (D1 (ix3 b s n))) (IntOp.muli (zb (ix1 n)) (R (ix2 b s))))
          (IntOp.muli (za ix0) (IntOp.addi (C0 (ix1 n)) (C1 (ix1 n))))) (IntOp.muli (IntOp.muli 16384#32 (za ix0)) (zb (ix1 n)))) (bias (ix1 n)) := by
  unfold combine
  pointwise

variable (V0 : Valuation τ sig (Elt Ideal))

theorem v44_eq : (res_main_v44 V0 : Vec Ideal S2x384x3584 .i32)
    = combine (Host.reduce IntOp.addi (prod0 (res_main_v0 V0) (res_main_v3 V0)) (constantI S_ 32 0#32) reducesTo_S2x384x8192x3584_S2x384x3584_d2 h_S_)
        (Host.reduce IntOp.addi (prod1 (res_main_v0 V0) (res_main_v5 V0)) (constantI S_ 32 0#32) reducesTo_S2x384x8192x3584_S2x384x3584_d2 h_S_)
        (Host.reduce IntOp.addi (res_main_v0 V0 : Vec Ideal S2x384x16384 .i32) (constantI S_ 32 0#32) reducesTo_S2x384x16384_S2x384_d2 h_S_)
        (Host.reduce IntOp.addi (res_main_v3 V0 : Vec Ideal S8192x3584 .i32) (constantI S_ 32 0#32) reducesTo_S8192x3584_S3584_d0 h_S_)
        (Host.reduce IntOp.addi (res_main_v5 V0 : Vec Ideal S8192x3584 .i32) (constantI S_ 32 0#32) reducesTo_S8192x3584_S3584_d0 h_S_)
        (V0 (Proc.devRef .tc main_arg1)) (V0 (Proc.devRef .tc main_arg3)) (V0 (Proc.devRef .tc main_arg4)) := by
  unfold res_main_v44 combine prod0 prod1
  with_reducible rfl

theorem dot0 (b : Fin 2) (s : Fin 384) (n : Fin 3584) :
    Host.reduce IntOp.addi (prod0 (res_main_v0 V0) (res_main_v3 V0)) (constantI S_ 32 0#32) reducesTo_S2x384x8192x3584_S2x384x3584_d2 h_S_ (ix3 b s n)
      = BitVec.ofInt 32 (∑ k ∈ Finset.range 8192, Spec.X (xs V0) b s (2 * k) * Spec.W (ws V0) (2 * k) n) := by
  rw [Finset.sum_range fun k => Spec.X (xs V0) b s (2 * k) * Spec.W (ws V0) (2 * k) n]
  refine reduce4 _ (fun i => Spec.X (xs V0) (i 0) (i 1) (2 * (i 2).val) * Spec.W (ws V0) (2 * (i 2).val) (i 3)) (fun i => ?_) b s n
  have key (b : Fin 2) (s : Fin 384) (k : Fin 8192) (n : Fin 3584) : prod0 (res_main_v0 V0) (res_main_v3 V0) (ix4 b s k n)
      = BitVec.ofInt 32 (Spec.X (xs V0) b s (2 * k) * Spec.W (ws V0) (2 * k) n) := by
    rw [prod0_apply, v0, v3, BitVec.ofInt_mul]
    rfl
  exact (congrArg _ (eq_ix4 i)).trans (key (i 0) (i 1) (i 2) (i 3))
theorem dot1 (b : Fin 2) (s : Fin 384) (n : Fin 3584) :
    Host.reduce IntOp.addi (prod1 (res_main_v0 V0) (res_main_v5 V0)) (constantI S_ 32 0#32) reducesTo_S2x384x8192x3584_S2x384x3584_d2 h_S_ (ix3 b s n)
      = BitVec.ofInt 32 (∑ k ∈ Finset.range 8192, Spec.X (xs V0) b s (2 * k + 1) * Spec.W (ws V0) (2 * k + 1) n) := by
  rw [Finset.sum_range fun k => Spec.X (xs V0) b s (2 * k + 1) * Spec.W (ws V0) (2 * k + 1) n]
  refine reduce4 _ (fun i => Spec.X (xs V0) (i 0) (i 1) (2 * (i 2).val + 1) * Spec.W (ws V0) (2 * (i 2).val + 1) (i 3)) (fun i => ?_) b s n
  have key (b : Fin 2) (s : Fin 384) (k : Fin 8192) (n : Fin 3584) : prod1 (res_main_v0 V0) (res_main_v5 V0) (ix4 b s k n)
      = BitVec.ofInt 32 (Spec.X (xs V0) b s (2 * k + 1) * Spec.W (ws V0) (2 * k + 1) n) := by
    rw [prod1_apply, v0, v5, BitVec.ofInt_mul]
    rfl
  exact (congrArg _ (eq_ix4 i)).trans (key (i 0) (i 1) (i 2) (i 3))

theorem rowSum (b : Fin 2) (s : Fin 384) :
    Host.reduce IntOp.addi (res_main_v0 V0 : Vec Ideal S2x384x16384 .i32) (constantI S_ 32 0#32) reducesTo_S2x384x16384_S2x384_d2 h_S_ (ix2 b s)
      = BitVec.ofInt 32 (∑ k ∈ Finset.range 16384, Spec.X (xs V0) b s k) := by
  rw [Finset.sum_range fun k => Spec.X (xs V0) b s k]
  exact reduce3 _ (fun i => Spec.X (xs V0) (i 0) (i 1) (i 2).val) (fun i => (congrArg _ (eq_ix3 i)).trans (v0 V0 (i 0) (i 1) (i 2))) b s

theorem colSum0 (n : Fin 3584) :
    Host.reduce IntOp.addi (res_main_v3 V0 : Vec Ideal S8192x3584 .i32) (constantI S_ 32 0#32) reducesTo_S8192x3584_S3584_d0 h_S_ (ix1 n)
      = BitVec.ofInt 32 (∑ k ∈ Finset.range 8192, Spec.W (ws V0) (2 * k) n) := by
  rw [Finset.sum_range fun k => Spec.W (ws V0) (2 * k) n]
  exact reduce2 _ (fun i => Spec.W (ws V0) (2 * (i 0).val) (i 1)) (fun i => (congrArg _ (eq_ix2 i)).trans (v3 V0 (i 0) (i 1))) n
theorem colSum1 (n : Fin 3584) :
    Host.reduce IntOp.addi (res_main_v5 V0 : Vec Ideal S8192x3584 .i32) (constantI S_ 32 0#32) reducesTo_S8192x3584_S3584_d0 h_S_ (ix1 n)
      = BitVec.ofInt 32 (∑ k ∈ Finset.range 8192, Spec.W (ws V0) (2 * k + 1) n) := by
  rw [Finset.sum_range fun k => Spec.W (ws V0) (2 * k + 1) n]
  exact reduce2 _ (fun i => Spec.W (ws V0) (2 * (i 0).val + 1) (i 1)) (fun i => (congrArg _ (eq_ix2 i)).trans (v5 V0 (i 0) (i 1))) n

/-- The accumulator at an element. -/
theorem acc (b : Fin 2) (s : Fin 384) (n : Fin 3584) :
    (res_main_v44 V0 : Vec Ideal S2x384x3584 .i32) (ix3 b s n)
      = Spec.rAcc (xs V0) ((V0 (Proc.devRef .tc main_arg1) : Vec Ideal S_ .i32) ix0) (ws V0)
          ((V0 (Proc.devRef .tc main_arg3) : Vec Ideal S3584 .i32) (ix1 n))
          ((V0 (Proc.devRef .tc main_arg4) : Vec Ideal S3584 .i32) (ix1 n)) b s n := by
  rw [v44_eq, combine_apply, dot0, dot1, rowSum, colSum0, colSum1]
  unfold Spec.rAcc
  rw [show (16384 : ℕ) = 2 * 8192 from rfl, even_odd (fun k => Spec.X (xs V0) b s k * Spec.W (ws V0) k n), even_odd (fun k => Spec.W (ws V0) k n),
    BitVec.ofInt_add, BitVec.ofInt_add]
  rfl

/-- The result array from the scaled accumulator and the shift's mask. -/
def finish (q : Vec Ideal S2x384x3584 .i32) (mask shift : Vec Ideal S3584 .i32) (zo : Vec Ideal S_ .i32) : Vec Ideal S2x384x3584 .i8 :=
  trunci 8 (minsi (broadcastInDim S2x384x3584 ![] bcast_S_S2x384x3584 (id (constantI S_ 32 255#32))) (maxsi (broadcastInDim S2x384x3584 ![] bcast_S_S2x384x3584 (id (constantI S_ 32 0#32))) (addi (addi (Host.shrsi q (broadcastInDim S2x384x3584 ![0, 1, 2] bcast_S1x1x3584_S2x384x3584_0_1_2 (broadcastInDim S1x1x3584 ![2] bcast_S3584_S1x1x3584_2 shift))) (extui 32 (cmpi .sgt (andi q (broadcastInDim S2x384x3584 ![0, 1, 2] bcast_S1x1x3584_S2x384x3584_0_1_2 (broadcastInDim S1x1x3584 ![2] bcast_S3584_S1x1x3584_2 mask))) (addi (broadcastInDim S2x384x3584 ![0, 1, 2] bcast_S1x1x3584_S2x384x3584_0_1_2 (broadcastInDim S1x1x3584 ![2] bcast_S3584_S1x1x3584_2 (Host.shrsi mask (broadcastInDim S3584 ![] bcast_S_S3584 (constantI S_ 32 1#32))))) (extui 32 (cmpi .slt q (broadcastInDim S2x384x3584 ![] bcast_S_S2x384x3584 (constantI S_ 32 0#32))) natLt_1_32))) natLt_1_32)) (broadcastInDim S2x384x3584 ![] bcast_S_S2x384x3584 zo)))) natLt_8_32

theorem finish_apply (q : Vec Ideal S2x384x3584 .i32) (mask shift : Vec Ideal S3584 .i32) (zo : Vec Ideal S_ .i32)
    (b : Fin 2) (s : Fin 384) (n : Fin 3584)
    (hmask : mask (ix1 n) = IntOp.subi (IntOp.shli .host 1#32 (shift (ix1 n))) 1#32) :
    finish q mask shift zo (ix3 b s n)
      = (IntOp.minsi 255#32 (IntOp.maxsi 0#32 (IntOp.addi (Words.rRound (q (ix3 b s n)) (shift (ix1 n))) (zo ix0)))).setWidth 8 := by
  unfold Words.rRound
  simp only []
  rw [← hmask]
  unfold finish
  simp only [id_eq]
  pointwise

/-- The result array at an element. -/
theorem result_apply (b : Fin 2) (s : Fin 384) (n : Fin 3584) :
    finish (res_main_v101 V0) (res_main_v105 V0) (V0 (Proc.devRef .tc main_arg6)) (V0 (Proc.devRef .tc main_arg7)) (ix3 b s n)
      = Spec.result (xs V0) (V0 (Proc.devRef .tc main_arg1)) (ws V0) (V0 (Proc.devRef .tc main_arg3)) (V0 (Proc.devRef .tc main_arg4))
          (V0 (Proc.devRef .tc main_arg5)) (V0 (Proc.devRef .tc main_arg6)) (V0 (Proc.devRef .tc main_arg7)) b s n := by
  rw [finish_apply _ _ _ _ b s n (v105 V0 n), scaled, acc]
  rfl

end Cert.ReferenceIdeal.Value
-- ==== Proof.Algebraic.lean ====
/-
  The two programs give the same result: both runs end with the array of one formula, at the same arguments.
-/
module

public import proofs.«01_k».proof.Defs
public import proofs.«01_k».proof.Proof.Gen.KernelIdeal
public import proofs.«01_k».proof.Proof.Gen.ReferenceIdeal
public import proofs.«01_k».proof.Proof.Gen.Pre_multiplier_nonnegative
public import proofs.«01_k».proof.Proof.KernelValue
public import proofs.«01_k».proof.Proof.RefValue
public import Idealize.ShloMosaic.Lib.Claim

@[expose] public section

set_option maxRecDepth 8192

noncomputable section

namespace Cert.Proof

open Idealize.ShloMosaic Idealize.ShloMosaic.TcCoe Idealize.ShloMosaic.Tactic
open Idealize.SL.Sem

/-- The precondition, column by column: no multiplier is negative. -/
theorem nonneg (m : (ℓ : Loc Cert.KernelIdeal.nD Cert.KernelIdeal.τ Cert.KernelIdeal.sig) → Buf (Elt Ideal) ℓ)
    (h : Cert.Pre_KernelIdeal_multiplier_nonnegative m) (c : Dev Cert.KernelIdeal.nD) (n : Fin 3584) :
    0 ≤ ((m ((c.tc : Thread Cert.KernelIdeal.nD Cert.KernelIdeal.τ).loc Cert.KernelIdeal.main_arg5) : Vec Ideal Cert.KernelIdeal.S3584 .i32) (ix1 n) : BitVec 32).toInt := by
  have e := congrFun (h c) (ix1 n)
  unfold Cert.Pre_multiplier_nonnegative.fn at e
  exact (Words.sge_zero _).1 e

/-- The reference's result is any array whose entries are those of the formula at the arguments as launched. -/
theorem refRun (m : (ℓ : Loc Cert.ReferenceIdeal.nD Cert.ReferenceIdeal.τ Cert.ReferenceIdeal.sig) → Buf (Elt Ideal) ℓ)
    (ρ : Dev Cert.ReferenceIdeal.nD → PrngReg) (c : Dev Cert.ReferenceIdeal.nD)
    (y : Vec Ideal Cert.ReferenceIdeal.S2x384x3584 .i8)
    (hy : ∀ b s n, y (ix3 b s n) = Spec.result (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7)) b s n) :
    Cert.ReferenceIdeal.Value.finish (Cert.ReferenceIdeal.Value.res_main_v101 (StableHlo.launchContents m c)) (Cert.ReferenceIdeal.Value.res_main_v105 (StableHlo.launchContents m c))
      (StableHlo.launchContents m c (Proc.devRef .tc Cert.ReferenceIdeal.main_arg6)) (StableHlo.launchContents m c (Proc.devRef .tc Cert.ReferenceIdeal.main_arg7)) = y := by
  funext i
  refine (congrArg _ (eq_ix3 i)).trans ((Cert.ReferenceIdeal.Value.result_apply (StableHlo.launchContents m c) (i 0) (i 1) (i 2)).trans ?_)
  exact (hy (i 0) (i 1) (i 2)).symm.trans (congrArg y (eq_ix3 i)).symm

/-- With no negative multiplier, the kernel over the extended reals and the reference end with the same array. -/
theorem algebraic : Cert.algebraic_KernelIdeal_ReferenceIdeal_pre_multiplier_nonnegative := by
  intro m g m' g' hpre hagree
  refine ⟨fun c => (fun i : Cert.KernelIdeal.S2x384x3584.Idx => Cert.KernelIdeal.Value.res m c (i 0) (i 1) (i 2)), ?_, ?_⟩
  · exact (θ_run _ _ _).mono (fun _ h c => ⟨h.1 c, h.2.1 c⟩)
      (θ_run_and (Cert.KernelIdeal.Value.run_value m g (nonneg m hpre)) (Cert.KernelIdeal.Value.frame m g))
  · refine (θ_run _ _ _).mono (fun _ h c => ⟨(h c).1.trans ?_, (h c).2⟩) (Cert.ReferenceIdeal.Value.run m' g')
    refine refRun m' g' c _ fun b s n => ?_
    obtain ⟨h0, h1, h2, h3, h4, h5, h6, h7⟩ := hagree c
    rw [h0, h1, h2, h3, h4, h5, h6, h7]
    rfl

end Cert.Proof
-- ==== Proof.lean ====
/-
  The claims about the fused u8 × u4 product: the kernel and its reading over the extended reals run without a fault and
  leave their arguments as they were, so does the reference, and the two give the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_multiplier_nonnegative
public import proofs.«01_k».proof.Proof.KBody
public import proofs.«01_k».proof.Proof.Body
public import proofs.«01_k».proof.Proof.RefFrame
public import proofs.«01_k».proof.Proof.Algebraic
public import Idealize.ShloMosaic.Adequacy
public import Idealize.ShloMosaic.Init

@[expose] public section

noncomputable section

namespace Cert.Proof

/-- Every claim of the certificate: the three frames, the ideal program, and the equality of the two results. -/
theorem claim : Cert.Claim :=
  ⟨Cert.Kernel.Gen.facts, Cert.KernelIdeal.Gen.facts, Cert.ReferenceIdeal.Gen.facts, Cert.Pre_multiplier_nonnegative.Gen.facts,
    fun m ρ _ => Cert.Kernel.Value.frame m ρ, fun m ρ _ => Cert.KernelIdeal.Value.frame m ρ, fun m ρ _ => Cert.KernelIdeal.Value.frame m ρ,
    fun m ρ _ => Cert.ReferenceIdeal.Value.frame m ρ, fun m ρ _ => Cert.ReferenceIdeal.Value.frame m ρ, trivial, Cert.Proof.algebraic⟩

end Cert.Proof

end
